-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S2048 : Shape := ⟨1, ![2048]⟩
abbrev S2048x64 : Shape := ⟨2, ![2048, 64]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x4096 .f32) (main_arg1 : FVec F S4096x2048 .f32) (main_arg2 : FVec F S2048 .f32) (main_arg3 : FVec F S2048x64 .f32) (main_arg4 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_v13 main_v16
-- ==== Kernel.lean ====
abbrev S8192x4096 : Shape := ⟨2, ![8192, 4096]⟩
abbrev S4096x2048 : Shape := ⟨2, ![4096, 2048]⟩
abbrev S2048 : Shape := ⟨1, ![2048]⟩
abbrev S2048x64 : Shape := ⟨2, ![2048, 64]⟩
abbrev S64 : Shape := ⟨1, ![64]⟩
abbrev S1x2048 : Shape := ⟨2, ![1, 2048]⟩
abbrev S1x64 : Shape := ⟨2, ![1, 64]⟩
abbrev S7680x8 : Shape := ⟨2, ![7680, 8]⟩
abbrev S1 : Shape := ⟨1, ![1]⟩
abbrev S512x64 : Shape := ⟨2, ![512, 64]⟩
abbrev S512x4096 : Shape := ⟨2, ![512, 4096]⟩
abbrev S512x8 : Shape := ⟨2, ![512, 8]⟩
abbrev S512 : Shape := ⟨1, ![512]⟩
abbrev S512x1 : Shape := ⟨2, ![512, 1]⟩
abbrev S1x512x1 : Shape := ⟨3, ![1, 512, 1]⟩
abbrev S1x1x1 : Shape := ⟨3, ![1, 1, 1]⟩
abbrev S512x2048 : Shape := ⟨2, ![512, 2048]⟩
abbrev S8192x8 : Shape := ⟨2, ![8192, 8]⟩
abbrev S_ : Shape := ⟨0, ![]⟩

abbrev nBuf : Space → Nat
  | .hbm => 22
  | .vmem => 15
  | .smem => 4
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S2048x64, .f32⟩
  | .hbm, ⟨4, _⟩ => ⟨S64, .f32⟩
  | .hbm, ⟨5, _⟩ => ⟨S1x2048, .f32⟩
  | .hbm, ⟨6, _⟩ => ⟨S1x64, .f32⟩
  | .hbm, ⟨7, _⟩ => ⟨S7680x8, .f32⟩
  | .hbm, ⟨8, _⟩ => ⟨S7680x8, .i32⟩
  | .hbm, ⟨9, _⟩ => ⟨S1, .f32⟩
  | .hbm, ⟨10, _⟩ => ⟨S512x64, .f32⟩
  | .hbm, ⟨11, _⟩ => ⟨S512x8, .f32⟩
  | .hbm, ⟨12, _⟩ => ⟨S512x8, .i32⟩
  | .hbm, ⟨13, _⟩ => ⟨S1, .f32⟩
  | .hbm, ⟨14, _⟩ => ⟨S8192x8, .f32⟩
  | .hbm, ⟨15, _⟩ => ⟨S8192x8, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S4096x2048, .f32⟩
  | .local _ .vmem, ⟨3, _⟩ => ⟨S1x2048, .f32⟩
  | .local _ .vmem, ⟨4, _⟩ => ⟨S2048x64, .f32⟩
  | .local _ .vmem, ⟨5, _⟩ => ⟨S1x64, .f32⟩
  | .local _ .vmem, ⟨6, _⟩ => ⟨S512x8, .f32⟩
  | .local _ .vmem, ⟨7, _⟩ => ⟨S512x8, .f32⟩
  | .local _ .vmem, ⟨8, _⟩ => ⟨S512x8, .i32⟩
  | .local _ .vmem, ⟨9, _⟩ => ⟨S512x8, .i32⟩
  | .local _ .vmem, ⟨10, _⟩ => ⟨S512x64, .f32⟩
  | .local _ .vmem, ⟨11, _⟩ => ⟨S512x64, .f32⟩
  | .local _ .vmem, ⟨12, _⟩ => ⟨S1x64, .f32⟩
  | .local _ .vmem, ⟨13, _⟩ => ⟨S512x8, .f32⟩
  | .local _ .vmem, ⟨14, _⟩ => ⟨S512x8, .i32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg8_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg3_0 : Ref sig .tc := ⟨.vmem, 13, rfl⟩
abbrev cc1_stg4_0 : Ref sig .tc := ⟨.vmem, 14, rfl⟩
abbrev cc0_stg7_0 : Ref sig .tc := ⟨.smem, 0, rfl⟩
abbrev cc0_scratch0 : Ref sig .tc := ⟨.smem, 1, rfl⟩
abbrev cc1_stg2_0 : Ref sig .tc := ⟨.smem, 2, rfl⟩
abbrev cc1_stg5_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := .none

abbrev stage1_0 : Fin 1 → Memref sig .tc .vmem S512x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x8 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S8192x4096 : Shape := ⟨2, ![8192, 4096]⟩
abbrev S4096x2048 : Shape := ⟨2, ![4096, 2048]⟩
abbrev S2048 : Shape := ⟨1, ![2048]⟩
abbrev S2048x64 : Shape := ⟨2, ![2048, 64]⟩
abbrev S64 : Shape := ⟨1, ![64]⟩
abbrev S8192x2048 : Shape := ⟨2, ![8192, 2048]⟩
abbrev S1x2048 : Shape := ⟨2, ![1, 2048]⟩
abbrev S_ : Shape := ⟨0, ![]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩
abbrev S8192x8 : Shape := ⟨2, ![8192, 8]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S2048x64, .f32⟩
  | .hbm, ⟨4, _⟩ => ⟨S64, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S8192x8, .f32⟩
  | .hbm, ⟨31, _⟩ => ⟨S8192x8, .i32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x8, .f32⟩
  | .hbm, ⟨36, _⟩ => ⟨S8192x8, .f32⟩
  | .hbm, ⟨37, _⟩ => ⟨S8192x64, .f32⟩
  | .hbm, ⟨38, _⟩ => ⟨S8192x64, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_values : Ref sig .tc := ⟨.hbm, 30, rfl⟩
abbrev main_indices : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Rel.lean ====
/- Regions whose proof data name every window's contents except at points that are not written back: the arrays after such a
   region are the exact ones, and the region's record from its body obligation. -/
module

public import Idealize.ShloMosaic.Lib.Pipeline.DatRel
public import Idealize.ShloMosaic.Lib.Pipeline.ArrRel
public import Idealize.ShloMosaic.Lib.Pipeline.Regions
public import Idealize.ShloMosaic.Lib.Pipeline.RegionsLoop
public import Idealize.ShloMosaic.Lib.Pipeline.RegionArrays
public import Idealize.ShloMosaic.Lib.Pipeline.RegionArraysF

@[expose] public section

noncomputable section

namespace Cert.Proof.Rel

open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {U : Type} [URA U] {Lvl : Type} [Preorder Lvl]
variable {Λ₀ : Idealize.SL.Sem.Labels} {P : Type} [Fintype P] [DecidableEq P]

local notation "𝕄" => MT nD τ sig Ix Val ℕ U Lvl

/-- The windows `fg` marks held to `Rl`, which at every point written back names the exact contents: after the region every
    array holds what the exact data say. -/
theorem arraysAt_exact [∀ e, Nonempty (Val e)] {cfg : Cfg sig Λ₀} {c : Dev nD} (dat : Dat τ Val Ix ℕ U Lvl cfg c) (fg : Fin cfg.W → Bool)
    (Rl : (w : Fin cfg.W) → Fin cfg.N → ((cfg.win w).block.Idx → Val (cfg.win w).elt) → Prop)
    (hfl : ∀ (w : Fin cfg.W) (t : Fin cfg.N) (X : (cfg.win w).block.Idx → Val (cfg.win w).elt), fg w = true → (cfg.win w).flush t = true → Rl w t X → X = dat.after w t) :
    ((dat.toRRel fg Rl).arraysAt cfg.N : sProp 𝕄) ⊢ dat.arrays (dat.arrAt · cfg.N) := by
  unfold RDat.arraysAt Dat.arrays
  refine (BI.bigSep_exists_pi Finset.univ _).trans ?_
  iintro ⟨%A, H⟩
  ihave H' := (BI.bigSep_pure_sep Finset.univ (fun w => (dat.toRRel fg Rl).ArrAt w cfg.N (A w)) _) $$ H
  icases H' with ⟨%hA, H⟩
  have hE : A = fun w => dat.arrAt w cfg.N := funext fun w => by
    have hw := hA w (Finset.mem_univ w)
    cases hf : fg w
    · exact ((dat.toR.override_arrAt (by simp only [hf]) cfg.N (A w)).trans (dat.toR_arrAt_iff w cfg.N (A w))).mp hw
    · obtain ⟨X, hX, hG⟩ := hw.exists_exact
      exact hG dat.after fun u hu hfu => (hfl w u (X u) hf hfu (dat.toRRel_leaves hf (hX u hu hfu))).symm
  subst hE
  iexact H

variable (pcs : P → PCfg sig Λ₀ Val) (a : (p : P) → (pcs p).Adm)
  (pdats : (p : P) → (c : Dev nD) → Dat τ Val Ix ℕ U Lvl (pin pcs a p) c) (ι : Ix)
  (defs₀ : Defs nD τ sig Val Λ₀) (𝒱₀ : Variants)
  (L : GSem nD τ sig → Finset Ix) (lv : GSem nD τ sig → Ix → Lvl)
  (fg : (q : P) → Fin (pin pcs a q).W → Bool)
  (Rl : (q : P) → Dev nD → (w : Fin (pin pcs a q).W) → Fin (pin pcs a q).N → (((pin pcs a q).win w).block.Idx → Val ((pin pcs a q).win w).elt) → Prop)

/-- The data family read relationally. -/
abbrev rdats : (q : P) → (c : Dev nD) → RDat τ Val Ix ℕ U Lvl (pin pcs a q) c := fun q c => (pdats q c).toRRel (fg q) (Rl q c)

/-- A core's thread state between two items: every unscoped buffer at `V`, and nothing owed. -/
abbrev St (c : Dev nD) (V : Valuation τ sig Val) : sProp 𝕄 :=
  iprop(StableHlo.held (c : Thread nD τ) (ucRefs τ sig) V ∗ ∃ W, owes (c : Thread nD τ) (0 : CellTallies nD τ sig Ix) W)

set_option backward.isDefEq.respectTransparency.types false in
/-- A region's record, over every unscoped buffer: entered at `V₁`, left at `V₂`, which has the region's arrays at their exact final
    contents and the rest as it was. -/
def region [∀ e, Nonempty (Val e)] (p : P) (kit : PLaunchFacts (nD := nD) (τ := τ) pcs p) (hK : (pcs p).pre.K = 0)
    (hbody : ∀ c, BodyObligationRel (pdats p c) defs₀ 𝒱₀ ι Set.univ (fg p) (Rl p c))
    (howed : ∀ c t, (pdats p c).owed t = 0) (hrec : ∀ c, (pdats p c).recorded 0 = Set.univ) (hshare : ∀ c w, (pdats p c).share w = fullShare)
    (hfl : ∀ c (w : Fin (pin pcs a p).W) (t : Fin (pin pcs a p).N) X, fg p w = true → ((pin pcs a p).win w).flush t = true → Rl p c w t X → X = (pdats p c).after w t)
    (hin : ∀ c, (scopedRest (pin pcs a p).spec c : sProp 𝕄) ⊢ (pdats p c).Φ 0)
    (hout : ∀ c, (pdats p c).Φ (Fin.last (pin pcs a p).N) ⊢ (scopedRest (pin pcs a p).spec c : sProp 𝕄))
    (V₁ V₂ : Dev nD → Valuation τ sig Val)
    (hA : ∀ c w, (pdats p c).A w = V₁ c (Proc.devRef .tc (arrRef (pin pcs a p).spec w)))
    (hF : ∀ c w, (pdats p c).arrAt w (pin pcs a p).N = V₂ c (Proc.devRef .tc (arrRef (pin pcs a p).spec w)))
    (hrest : ∀ c (b : Ref sig .tc), b ∉ Finset.univ.image (arrRef (pin pcs a p).spec) → V₂ c (Proc.devRef .tc b) = V₁ c (Proc.devRef .tc b)) :
    RDat.RegionSeg pcs a (rdats pcs a pdats fg Rl) ι defs₀ 𝒱₀ L lv p where
  win := kit.to₀.win
  block_pos := kit.to₀.block_pos
  stage_whole := kit.to₀.stage_whole
  K := PEmpty
  osem k := k.elim
  ho := OwnSemFacts.none _
  hbody c := (hbody c).toRRel
  hwaits c := (show (levAts L lv : sProp 𝕄) ⊢ BI.emp from by iintro -; iempintro).trans
    (RDat.cellsWaits_of_owed_zero (pin pcs a) (rdats pcs a pdats fg Rl) ι p c (howed c))
  pre c := St c (V₁ c)
  post c := St c (V₂ c)
  X _ := BI.emp
  Y _ := BI.emp
  Z c := unscopedRest (Ix := Ix) (Name := ℕ) (U := U) (Lvl := Lvl) (pin pcs a p).spec c (fun b => V₁ c (Proc.devRef .tc b))
  hentry c := by
    show _ ⊢ |={Set.univ}=> iprop((pdats p c).arrays ((pdats p c).arrAt · 0) ∗ prefHeld (pcs p).pre c (fun _ => fullShare) (a p).1
        ∗ (pdats p c).owesAt ι 0 ∗ _ ∗ _)
    unfold St
    rw [ownSems0_none, prefHeld_of_none _ hK,
      show StableHlo.held (c.tc : Thread nD τ) (ucRefs τ sig) (V₁ c) = unscopedBufs c (fun b => V₁ c (Proc.devRef .tc b))
        from (unscopedBufs_held (Ix := Ix) (Name := ℕ) (U := U) (Lvl := Lvl) c (V₁ c)).symm]
    have hsplit := arrays_of_unscopedBufs (p := p) pcs a pdats kit.win kit.arr_whole c (hshare c)
      (fun b => V₁ c (Proc.devRef .tc b)) (fun w => hA c w)
    iintro ⟨⟨Hub, HO⟩, -, -⟩
    ihave H := hsplit $$ Hub
    icases H with ⟨Ha, Hrest⟩
    imodintro
    isplitl [Ha]; · iexact Ha
    isplitr; · iempintro
    isplitl [HO]
    · unfold Dat.owesAt owesWithin Dat.bound
      rw [howed c 0, hrec c]
      icases HO with ⟨%W, HO⟩; iexists W; isplitr; · ipureintro; exact fun _ _ => Or.inl trivial
      iexact HO
    isplitr; · iempintro
    iexact Hrest
  hin c := (show _ ⊢ (scopedRest (pin pcs a p).spec c : sProp 𝕄) from by iintro ⟨-, -, Hr⟩; iexact Hr).trans (hin c)
  hout c := (hout c).trans (by
    rw [ownSems0_none]
    iintro Hr
    isplitr; · iempintro
    isplitr; · iempintro
    iexact Hr)
  hexit c := by
    show iprop(((pdats p c).toRRel (fg p) (Rl p c)).arraysAt (pin pcs a p).N ∗ (pdats p c).owesAt ι (Fin.last (pin pcs a p).N) ∗ _ ∗ _) ⊢ _
    unfold St
    rw [show StableHlo.held (c.tc : Thread nD τ) (ucRefs τ sig) (V₂ c) = unscopedBufs c (fun b => V₂ c (Proc.devRef .tc b))
        from (unscopedBufs_held (Ix := Ix) (Name := ℕ) (U := U) (Lvl := Lvl) c (V₂ c)).symm]
    have hjoin := unscopedBufs_of_arrays (p := p) pcs a (Ix := Ix) (Name := ℕ) (U := U) (Lvl := Lvl) kit.win kit.arr_whole c
      pdats (hshare c) (fun b => V₁ c (Proc.devRef .tc b)) (fun b => V₂ c (Proc.devRef .tc b)) ((pdats p c).arrAt · (pin pcs a p).N)
      (fun w => hF c w) (fun b hb => hrest c b hb)
    iintro ⟨Ha, HO, -, Hrest⟩
    ihave Ha := (arraysAt_exact (pdats p c) (fg p) (Rl p c) (hfl c)) $$ Ha
    imodintro
    isplitl [Ha Hrest]
    · iapply hjoin; isplitl [Ha] <;> iassumption
    unfold Dat.owesAt owesWithin
    rw [howed c (Fin.last _)]
    icases HO with ⟨%W, -, HO⟩; iexists W; iexact HO

end Cert.Proof.Rel

end
-- ==== Proof.KiRun.lean ====
/- The two kernel bodies run once: what each leaves in its windows and its scratch word, as functions of what it found. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Regions
public import Idealize.ShloMosaic.Lib.VecWindow
public import Idealize.ShloMosaic.Lib.Tactic

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's own beside the transfers' counters. -/
abbrev UU : Type := UR sig nD τ × Counters

local notation "𝕄" => MT nD τ sig Unit (Elt F) ℕ UU ℕ

/-- A memref's buffer contents on core `c`. -/
abbrev Bf (c : Dev nD) {sp : Space} {S : Shape} {e : EltTy} (M : Memref sig .tc sp S e) : Type := Buf (Elt F) (M.view.loc (c : Thread nD τ))
/-- A memref's buffer held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The body `cc0__main_body` run from its windows' buffers held whole at any contents: what it leaves in the buffers it stores into. -/
def run0 (c : Dev nD) (i : grid0.Coords)
    (M1 : Memref sig .tc .vmem S512x4096 .f32) (h1 : M1.IsWhole)
    (M2 : Memref sig .tc .vmem S4096x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S1x64 .f32) (h5 : M5.IsWhole)
    (M6 : Memref sig .tc .vmem S512x8 .f32) (h6 : M6.IsWhole)
    (M7 : Memref sig .tc .vmem S512x8 .i32) (h7 : M7.IsWhole)
    (M8 : Memref sig .tc .smem S1 .f32) (h8 : M8.IsWhole)
    (M9 : Memref sig .tc .vmem S512x64 .f32) (h9 : M9.IsWhole)
    (M10 : Memref sig .tc .smem S1 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    Σ' (W6 : Bf (F := F) c M6) (W7 : Bf (F := F) c M7) (W8 : Bf (F := F) c M8) (W9 : Bf (F := F) c M9), { W10 : Bf (F := F) c M10 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M1 f1 ∗ pt c M2 f2 ∗ pt c M3 f3 ∗ pt c M4 f4 ∗ pt c M5 f5 ∗ pt c M6 W6 ∗ pt c M7 W7 ∗ pt c M8 W8 ∗ pt c M9 W9 ∗ pt c M10 W10) -∗ Q ⟨⟩))
          ⊢ wp frame (wpE (defs₀ (F := F)) Variants.none c none) E (cc0__main_body i M1 h1 M2 h2 M3 h3 M4 h4 M5 h5 M6 h6 M7 h7 M8 h8 M9 h9 M10 h10) Q } := by
  refine ⟨?_, ?_, ?_, ?_, ?_, fun E Q => ?run⟩
  case run =>
    sl_unfold [cc0__main_body, k0_part1, k0_part2, k0_part3]
    iintro ⟨H1, H2, H3, H4, H5, H6, H7, H8, H9, H10, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body `cc1__last_body` run from its windows' buffers held whole at any contents: what it leaves in the buffers it stores into. -/
def run1 (c : Dev nD) (M1 : Memref sig .tc .vmem S512x64 .f32) (h1 : M1.IsWhole)
    (M2 : Memref sig .tc .vmem S1x64 .f32) (h2 : M2.IsWhole)
    (M3 : Memref sig .tc .smem S1 .f32) (h3 : M3.IsWhole)
    (M4 : Memref sig .tc .vmem S512x8 .f32) (h4 : M4.IsWhole)
    (M5 : Memref sig .tc .vmem S512x8 .i32) (h5 : M5.IsWhole)
    (M6 : Memref sig .tc .smem S1 .f32) (h6 : M6.IsWhole)
    (f1 : Bf (F := F) c M1) (f2 : Bf (F := F) c M2) (f3 : Bf (F := F) c M3) (f4 : Bf (F := F) c M4) (f5 : Bf (F := F) c M5) (f6 : Bf (F := F) c M6) :
    Σ' (W4 : Bf (F := F) c M4) (W5 : Bf (F := F) c M5), { W6 : Bf (F := F) c M6 // ∀ (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 W4 ∗ pt c M5 W5 ∗ pt c M6 W6) -∗ Q ⟨⟩))
          ⊢ wp frame (wpE (defs₀ (F := F)) Variants.none c none) E (cc1__last_body M1 h1 M2 h2 M3 h3 M4 h4 M5 h5 M6 h6) Q } := by
  refine ⟨?_, ?_, ?_, fun E Q => ?run⟩
  case run =>
    sl_unfold [cc1__last_body, k1_part1, k1_part2]
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

end Cert.Proof.Ki

end
-- ==== Proof.KiBody.lean ====
/- The two kernel bodies run once: what each leaves in its windows and its scratch word, as functions of what it found. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KiRun
public import Idealize.ShloMosaic.Lib.Pipeline.Regions
public import Idealize.ShloMosaic.Lib.VecWindow
public import Idealize.ShloMosaic.Lib.Tactic

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### What the bodies compute -/

/-- The lane numbers of a block. -/
def lanes : IVec S512x64 32 := iota .tc S512x64 32 [1] iota_S512x64_d1_w32

/-- The eight normalised weights of a block of logits, as the first call's body computes them. -/
def wts0 (lg : Vec F S512x64 .f32) (b : Vec F S1x64 .f32) : FVec F S512x8 .f32 :=
  k0_pay31 lanes (k0_pay6 lg b) (k0_pay9 lg b) (k0_pay12 lanes (k0_pay8 lg b) (k0_pay10 lg b)) (k0_pay15 lanes (k0_pay8 lg b) (k0_pay10 lg b))
    (k0_pay18 lanes (k0_pay8 lg b) (k0_pay10 lg b)) (k0_pay20 lanes (k0_pay8 lg b) (k0_pay10 lg b)) (k0_pay21 lanes (k0_pay8 lg b) (k0_pay10 lg b))
    (k0_pay22 lanes (k0_pay8 lg b) (k0_pay10 lg b)) k0_pay23

/-- The eight lanes of a block of logits, as the first call's body computes them. -/
def idx0 (lg : Vec F S512x64 .f32) (b : Vec F S1x64 .f32) : IVec S512x8 32 :=
  k0_pay30 lanes (k0_pay7 lg b) (k0_pay10 lg b) (k0_pay13 lanes (k0_pay8 lg b) (k0_pay10 lg b)) (k0_pay16 lanes (k0_pay8 lg b) (k0_pay10 lg b))
    (k0_pay19 lanes (k0_pay8 lg b) (k0_pay10 lg b)) (k0_pay20 lanes (k0_pay8 lg b) (k0_pay10 lg b)) (k0_pay22 lanes (k0_pay8 lg b) (k0_pay10 lg b)) k0_pay23

/-- The running entropy sum after a point of the first call: at point 0 nothing, later what was there and the block's entropy. -/
def acc0 (i : grid0.Coords) (lg : Vec F S512x64 .f32) (b : Vec F S1x64 .f32) (prev : S1.Idx → Elt F .f32) : S1.Idx → Elt F .f32 := fun _ =>
  k0_pay1 (k0_pay5 lg b) (k0_pay32 (BitVec.ofNat 32 (i 0).val) (prev (Shape.Idx.first (numel1_S1 ▸ Nat.one_pos))))
    (Scalar.cmpi .eq (BitVec.ofNat 32 (i 0).val) 0#32) (Scalar.ofBits .f32 0x00000000#32)

/-- The eight normalised weights of the last block of logits, as the second call's body computes them. -/
def wts1 (lg : Vec F S512x64 .f32) (b : Vec F S1x64 .f32) : FVec F S512x8 .f32 :=
  k1_pay8 lanes (k1_pay13 lg b) (k1_pay16 lg b) (k1_pay20 lanes (k1_pay15 lg b) (k1_pay18 lg b)) (k1_pay23 lanes (k1_pay15 lg b) (k1_pay18 lg b))
    (k1_pay26 lanes (k1_pay15 lg b) (k1_pay18 lg b)) (k1_pay28 lanes (k1_pay15 lg b) (k1_pay18 lg b)) (k1_pay29 lanes (k1_pay15 lg b) (k1_pay18 lg b))
    (k1_pay30 lanes (k1_pay15 lg b) (k1_pay18 lg b))

/-- The eight lanes of the last block of logits, as the second call's body computes them. -/
def idx1 (lg : Vec F S512x64 .f32) (b : Vec F S1x64 .f32) : IVec S512x8 32 :=
  k1_pay7 lanes (k1_pay14 lg b) (k1_pay17 lg b) (k1_pay21 lanes (k1_pay15 lg b) (k1_pay18 lg b)) (k1_pay24 lanes (k1_pay15 lg b) (k1_pay18 lg b))
    (k1_pay27 lanes (k1_pay15 lg b) (k1_pay18 lg b)) (k1_pay28 lanes (k1_pay15 lg b) (k1_pay18 lg b)) (k1_pay30 lanes (k1_pay15 lg b) (k1_pay18 lg b))

/-- The entropy sum after the last block. -/
def acc1 (lg : Vec F S512x64 .f32) (b : Vec F S1x64 .f32) (prev : S1.Idx → Elt F .f32) : S1.Idx → Elt F .f32 := fun _ =>
  k1_pay9 (k1_pay12 lg b) (prev (Shape.Idx.first (numel1_S1 ▸ Nat.one_pos)))

/-! ### The bodies run -/

/-- A load of a whole block of logits, -/
theorem rd_lg {κ : Kind} {sp : Space} (v : View sig κ sp S512x64 .f32) (f : v.ty.Contents (Elt F)) :
    v.readAt (Elt F) (Rect.unit (s := S512x64) ![0, 0] ![512, 64] inb_S512x64_S512x64_0_0).toLoadRect f = v.read (Elt F) f :=
  View.readAt_full v f inb_S512x64_S512x64_0_0
/-- of the bias row, -/
theorem rd_b {κ : Kind} {sp : Space} (v : View sig κ sp S1x64 .f32) (f : v.ty.Contents (Elt F)) :
    v.readAt (Elt F) (Rect.unit (s := S1x64) ![0, 0] ![1, 64] inb_S1x64_S1x64_0_0).toLoadRect f = v.read (Elt F) f :=
  View.readAt_full v f inb_S1x64_S1x64_0_0
/-- of the word. -/
theorem rd_w {κ : Kind} {sp : Space} (v : View sig κ sp S1 .f32) (f : v.ty.Contents (Elt F)) :
    v.readAt (Elt F) (Rect.unit (s := S1) ![0] ![1] inb_S1_S1_0).toLoadRect f = v.read (Elt F) f :=
  View.readAt_full v f inb_S1_S1_0

theorem run0_6 (c : Dev nD) (i : grid0.Coords)
    (M1 : Memref sig .tc .vmem S512x4096 .f32) (h1 : M1.IsWhole)
    (M2 : Memref sig .tc .vmem S4096x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S1x64 .f32) (h5 : M5.IsWhole)
    (M6 : Memref sig .tc .vmem S512x8 .f32) (h6 : M6.IsWhole)
    (M7 : Memref sig .tc .vmem S512x8 .i32) (h7 : M7.IsWhole)
    (M8 : Memref sig .tc .smem S1 .f32) (h8 : M8.IsWhole)
    (M9 : Memref sig .tc .vmem S512x64 .f32) (h9 : M9.IsWhole)
    (M10 : Memref sig .tc .smem S1 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M6.view.read (Elt F) ((run0 c i M1 h1 M2 h2 M3 h3 M4 h4 M5 h5 M6 h6 M7 h7 M8 h8 M9 h9 M10 h10 f1 f2 f3 f4 f5 f6 f7 f8 f9 f10).1) = wts0 (M9.view.read (Elt F) f9) (M5.view.read (Elt F) f5) := by
  unfold run0
  refine (View.read_writes_full _ _ _ _ _).trans ?_
  unfold wts0; simp only [lanes, run0.sl.v23, run0.sl.v127, run0.sl.cst_44, run0.sl.r, run0.sl.r_1, run0.sl.r_2, run0.sl.r_3, run0.sl.r_4, run0.sl.r_5, run0.sl.r_6, run0.sl.r_7, run0.sl.r_8, run0.sl.r_9, run0.sl.r_10, run0.sl.r_11, run0.sl.r_12, run0.sl.r_13, run0.sl.r_14, run0.sl.r_15, run0.sl.r_16, rd_lg, rd_b, rd_w]

theorem run0_7 (c : Dev nD) (i : grid0.Coords)
    (M1 : Memref sig .tc .vmem S512x4096 .f32) (h1 : M1.IsWhole)
    (M2 : Memref sig .tc .vmem S4096x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S1x64 .f32) (h5 : M5.IsWhole)
    (M6 : Memref sig .tc .vmem S512x8 .f32) (h6 : M6.IsWhole)
    (M7 : Memref sig .tc .vmem S512x8 .i32) (h7 : M7.IsWhole)
    (M8 : Memref sig .tc .smem S1 .f32) (h8 : M8.IsWhole)
    (M9 : Memref sig .tc .vmem S512x64 .f32) (h9 : M9.IsWhole)
    (M10 : Memref sig .tc .smem S1 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M7.view.read (Elt F) ((run0 c i M1 h1 M2 h2 M3 h3 M4 h4 M5 h5 M6 h6 M7 h7 M8 h8 M9 h9 M10 h10 f1 f2 f3 f4 f5 f6 f7 f8 f9 f10).2.1) = idx0 (M9.view.read (Elt F) f9) (M5.view.read (Elt F) f5) := by
  unfold run0
  refine (View.read_writes_full _ _ _ _ _).trans ?_
  unfold idx0; simp only [lanes, run0.sl.v23, run0.sl.v127, run0.sl.cst_44, run0.sl.r, run0.sl.r_1, run0.sl.r_2, run0.sl.r_3, run0.sl.r_4, run0.sl.r_5, run0.sl.r_6, run0.sl.r_7, run0.sl.r_8, run0.sl.r_9, run0.sl.r_10, run0.sl.r_11, run0.sl.r_12, run0.sl.r_13, run0.sl.r_14, run0.sl.r_15, run0.sl.r_16, rd_lg, rd_b, rd_w]

theorem run0_8 (c : Dev nD) (i : grid0.Coords)
    (M1 : Memref sig .tc .vmem S512x4096 .f32) (h1 : M1.IsWhole)
    (M2 : Memref sig .tc .vmem S4096x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S1x64 .f32) (h5 : M5.IsWhole)
    (M6 : Memref sig .tc .vmem S512x8 .f32) (h6 : M6.IsWhole)
    (M7 : Memref sig .tc .vmem S512x8 .i32) (h7 : M7.IsWhole)
    (M8 : Memref sig .tc .smem S1 .f32) (h8 : M8.IsWhole)
    (M9 : Memref sig .tc .vmem S512x64 .f32) (h9 : M9.IsWhole)
    (M10 : Memref sig .tc .smem S1 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M8.view.read (Elt F) ((run0 c i M1 h1 M2 h2 M3 h3 M4 h4 M5 h5 M6 h6 M7 h7 M8 h8 M9 h9 M10 h10 f1 f2 f3 f4 f5 f6 f7 f8 f9 f10).2.2.1) = acc0 i (M9.view.read (Elt F) f9) (M5.view.read (Elt F) f5) (M10.view.read (Elt F) f10) := by
  unfold run0
  refine (View.read_writes_full _ _ _ _ _).trans ?_
  unfold acc0; simp only [lanes, run0.sl.v23, run0.sl.v127, run0.sl.cst_44, run0.sl.r, run0.sl.r_1, run0.sl.r_2, run0.sl.r_3, run0.sl.r_4, run0.sl.r_5, run0.sl.r_6, run0.sl.r_7, run0.sl.r_8, run0.sl.r_9, run0.sl.r_10, run0.sl.r_11, run0.sl.r_12, run0.sl.r_13, run0.sl.r_14, run0.sl.r_15, run0.sl.r_16, rd_lg, rd_b, rd_w]; rfl

theorem run0_9 (c : Dev nD) (i : grid0.Coords)
    (M1 : Memref sig .tc .vmem S512x4096 .f32) (h1 : M1.IsWhole)
    (M2 : Memref sig .tc .vmem S4096x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S1x64 .f32) (h5 : M5.IsWhole)
    (M6 : Memref sig .tc .vmem S512x8 .f32) (h6 : M6.IsWhole)
    (M7 : Memref sig .tc .vmem S512x8 .i32) (h7 : M7.IsWhole)
    (M8 : Memref sig .tc .smem S1 .f32) (h8 : M8.IsWhole)
    (M9 : Memref sig .tc .vmem S512x64 .f32) (h9 : M9.IsWhole)
    (M10 : Memref sig .tc .smem S1 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M9.view.read (Elt F) ((run0 c i M1 h1 M2 h2 M3 h3 M4 h4 M5 h5 M6 h6 M7 h7 M8 h8 M9 h9 M10 h10 f1 f2 f3 f4 f5 f6 f7 f8 f9 f10).2.2.2.1) = k0_pay2 (M1.view.read (Elt F) f1) (M2.view.read (Elt F) f2) (M3.view.read (Elt F) f3) (M4.view.read (Elt F) f4) := by
  unfold run0
  refine (View.read_writes_full _ _ _ _ _).trans ?_
  congr 1 <;> exact View.readAt_full _ _ _

theorem run0_10 (c : Dev nD) (i : grid0.Coords)
    (M1 : Memref sig .tc .vmem S512x4096 .f32) (h1 : M1.IsWhole)
    (M2 : Memref sig .tc .vmem S4096x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S1x64 .f32) (h5 : M5.IsWhole)
    (M6 : Memref sig .tc .vmem S512x8 .f32) (h6 : M6.IsWhole)
    (M7 : Memref sig .tc .vmem S512x8 .i32) (h7 : M7.IsWhole)
    (M8 : Memref sig .tc .smem S1 .f32) (h8 : M8.IsWhole)
    (M9 : Memref sig .tc .vmem S512x64 .f32) (h9 : M9.IsWhole)
    (M10 : Memref sig .tc .smem S1 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    M10.view.read (Elt F) ((run0 c i M1 h1 M2 h2 M3 h3 M4 h4 M5 h5 M6 h6 M7 h7 M8 h8 M9 h9 M10 h10 f1 f2 f3 f4 f5 f6 f7 f8 f9 f10).2.2.2.2.1) = acc0 i (M9.view.read (Elt F) f9) (M5.view.read (Elt F) f5) (M10.view.read (Elt F) f10) := by
  unfold run0
  refine (View.read_writes_full _ _ _ _ _).trans ?_
  unfold acc0; simp only [lanes, run0.sl.v23, run0.sl.v127, run0.sl.cst_44, run0.sl.r, run0.sl.r_1, run0.sl.r_2, run0.sl.r_3, run0.sl.r_4, run0.sl.r_5, run0.sl.r_6, run0.sl.r_7, run0.sl.r_8, run0.sl.r_9, run0.sl.r_10, run0.sl.r_11, run0.sl.r_12, run0.sl.r_13, run0.sl.r_14, run0.sl.r_15, run0.sl.r_16, rd_lg, rd_b, rd_w]; rfl

/-- The body `cc0__main_body` from its windows held at any contents: the inputs as found, the outputs at the functions above. -/
theorem body0 (c : Dev nD) (i : grid0.Coords)
    (M1 : Memref sig .tc .vmem S512x4096 .f32) (h1 : M1.IsWhole)
    (M2 : Memref sig .tc .vmem S4096x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S1x64 .f32) (h5 : M5.IsWhole)
    (M6 : Memref sig .tc .vmem S512x8 .f32) (h6 : M6.IsWhole)
    (M7 : Memref sig .tc .vmem S512x8 .i32) (h7 : M7.IsWhole)
    (M8 : Memref sig .tc .smem S1 .f32) (h8 : M8.IsWhole)
    (M9 : Memref sig .tc .vmem S512x64 .f32) (h9 : M9.IsWhole)
    (M10 : Memref sig .tc .smem S1 .f32) (h10 : M10.IsWhole)
    (X1 : S512x4096.Idx → Elt F .f32) (X2 : S4096x2048.Idx → Elt F .f32) (X3 : S1x2048.Idx → Elt F .f32) (X4 : S2048x64.Idx → Elt F .f32) (X5 : S1x64.Idx → Elt F .f32) (X6 : S512x8.Idx → Elt F .f32) (X7 : S512x8.Idx → Elt F .i32) (X8 : S1.Idx → Elt F .f32) (X9 : S512x64.Idx → Elt F .f32) (X10 : S1.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (wts0 X9 X5) ∗ owns (c : Thread nD τ) M7 fullShare (idx0 X9 X5) ∗ owns (c : Thread nD τ) M8 fullShare (acc0 i X9 X5 X10) ∗ owns (c : Thread nD τ) M9 fullShare (k0_pay2 X1 X2 X3 X4) ∗ owns (c : Thread nD τ) M10 fullShare (acc0 i X9 X5 X10)) -∗ Q ⟨⟩))
      ⊢ wp frame (wpE (defs₀ (F := F)) Variants.none c none) E (cc0__main_body i M1 h1 M2 h2 M3 h3 M4 h4 M5 h5 M6 h6 M7 h7 M8 h8 M9 h9 M10 h10) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1
  subst hf2
  subst hf3
  subst hf4
  subst hf5
  subst hf6
  subst hf7
  subst hf8
  subst hf9
  subst hf10
  iapply ((run0 c i M1 h1 M2 h2 M3 h3 M4 h4 M5 h5 M6 h6 M7 h7 M8 h8 M9 h9 M10 h10 f1 f2 f3 f4 f5 f6 f7 f8 f9 f10).2.2.2.2.2 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; exact run0_6 c i M1 h1 M2 h2 M3 h3 M4 h4 M5 h5 M6 h6 M7 h7 M8 h8 M9 h9 M10 h10 f1 f2 f3 f4 f5 f6 f7 f8 f9 f10
  isplitl [H7]; · iexists _; isplitr; swap; (· iexact H7); ipureintro; exact run0_7 c i M1 h1 M2 h2 M3 h3 M4 h4 M5 h5 M6 h6 M7 h7 M8 h8 M9 h9 M10 h10 f1 f2 f3 f4 f5 f6 f7 f8 f9 f10
  isplitl [H8]; · iexists _; isplitr; swap; (· iexact H8); ipureintro; exact run0_8 c i M1 h1 M2 h2 M3 h3 M4 h4 M5 h5 M6 h6 M7 h7 M8 h8 M9 h9 M10 h10 f1 f2 f3 f4 f5 f6 f7 f8 f9 f10
  isplitl [H9]; · iexists _; isplitr; swap; (· iexact H9); ipureintro; exact run0_9 c i M1 h1 M2 h2 M3 h3 M4 h4 M5 h5 M6 h6 M7 h7 M8 h8 M9 h9 M10 h10 f1 f2 f3 f4 f5 f6 f7 f8 f9 f10
  iexists _; isplitr; swap; (· iexact H10); ipureintro; exact run0_10 c i M1 h1 M2 h2 M3 h3 M4 h4 M5 h5 M6 h6 M7 h7 M8 h8 M9 h9 M10 h10 f1 f2 f3 f4 f5 f6 f7 f8 f9 f10

theorem run1_4 (c : Dev nD) (M1 : Memref sig .tc .vmem S512x64 .f32) (h1 : M1.IsWhole)
    (M2 : Memref sig .tc .vmem S1x64 .f32) (h2 : M2.IsWhole)
    (M3 : Memref sig .tc .smem S1 .f32) (h3 : M3.IsWhole)
    (M4 : Memref sig .tc .vmem S512x8 .f32) (h4 : M4.IsWhole)
    (M5 : Memref sig .tc .vmem S512x8 .i32) (h5 : M5.IsWhole)
    (M6 : Memref sig .tc .smem S1 .f32) (h6 : M6.IsWhole)
    (f1 : Bf (F := F) c M1) (f2 : Bf (F := F) c M2) (f3 : Bf (F := F) c M3) (f4 : Bf (F := F) c M4) (f5 : Bf (F := F) c M5) (f6 : Bf (F := F) c M6) :
    M4.view.read (Elt F) ((run1 c M1 h1 M2 h2 M3 h3 M4 h4 M5 h5 M6 h6 f1 f2 f3 f4 f5 f6).1) = wts1 (M1.view.read (Elt F) f1) (M2.view.read (Elt F) f2) := by
  unfold run1
  refine (View.read_writes_full _ _ _ _ _).trans ?_
  unfold wts1; simp only [lanes, run1.sl.v23, run1.sl.r, run1.sl.r_1, run1.sl.r_2, run1.sl.r_3, run1.sl.r_4, run1.sl.r_5, run1.sl.r_6, run1.sl.r_7, run1.sl.r_8, run1.sl.r_9, run1.sl.r_10, run1.sl.r_11, run1.sl.r_12, run1.sl.r_13, run1.sl.r_14, run1.sl.r_15, run1.sl.r_16, rd_lg, rd_b, rd_w]

theorem run1_5 (c : Dev nD) (M1 : Memref sig .tc .vmem S512x64 .f32) (h1 : M1.IsWhole)
    (M2 : Memref sig .tc .vmem S1x64 .f32) (h2 : M2.IsWhole)
    (M3 : Memref sig .tc .smem S1 .f32) (h3 : M3.IsWhole)
    (M4 : Memref sig .tc .vmem S512x8 .f32) (h4 : M4.IsWhole)
    (M5 : Memref sig .tc .vmem S512x8 .i32) (h5 : M5.IsWhole)
    (M6 : Memref sig .tc .smem S1 .f32) (h6 : M6.IsWhole)
    (f1 : Bf (F := F) c M1) (f2 : Bf (F := F) c M2) (f3 : Bf (F := F) c M3) (f4 : Bf (F := F) c M4) (f5 : Bf (F := F) c M5) (f6 : Bf (F := F) c M6) :
    M5.view.read (Elt F) ((run1 c M1 h1 M2 h2 M3 h3 M4 h4 M5 h5 M6 h6 f1 f2 f3 f4 f5 f6).2.1) = idx1 (M1.view.read (Elt F) f1) (M2.view.read (Elt F) f2) := by
  unfold run1
  refine (View.read_writes_full _ _ _ _ _).trans ?_
  unfold idx1; simp only [lanes, run1.sl.v23, run1.sl.r, run1.sl.r_1, run1.sl.r_2, run1.sl.r_3, run1.sl.r_4, run1.sl.r_5, run1.sl.r_6, run1.sl.r_7, run1.sl.r_8, run1.sl.r_9, run1.sl.r_10, run1.sl.r_11, run1.sl.r_12, run1.sl.r_13, run1.sl.r_14, run1.sl.r_15, run1.sl.r_16, rd_lg, rd_b, rd_w]

theorem run1_6 (c : Dev nD) (M1 : Memref sig .tc .vmem S512x64 .f32) (h1 : M1.IsWhole)
    (M2 : Memref sig .tc .vmem S1x64 .f32) (h2 : M2.IsWhole)
    (M3 : Memref sig .tc .smem S1 .f32) (h3 : M3.IsWhole)
    (M4 : Memref sig .tc .vmem S512x8 .f32) (h4 : M4.IsWhole)
    (M5 : Memref sig .tc .vmem S512x8 .i32) (h5 : M5.IsWhole)
    (M6 : Memref sig .tc .smem S1 .f32) (h6 : M6.IsWhole)
    (f1 : Bf (F := F) c M1) (f2 : Bf (F := F) c M2) (f3 : Bf (F := F) c M3) (f4 : Bf (F := F) c M4) (f5 : Bf (F := F) c M5) (f6 : Bf (F := F) c M6) :
    M6.view.read (Elt F) ((run1 c M1 h1 M2 h2 M3 h3 M4 h4 M5 h5 M6 h6 f1 f2 f3 f4 f5 f6).2.2.1) = acc1 (M1.view.read (Elt F) f1) (M2.view.read (Elt F) f2) (M3.view.read (Elt F) f3) := by
  unfold run1
  refine (View.read_writes_full _ _ _ _ _).trans ?_
  unfold acc1; simp only [lanes, run1.sl.v23, run1.sl.r, run1.sl.r_1, run1.sl.r_2, run1.sl.r_3, run1.sl.r_4, run1.sl.r_5, run1.sl.r_6, run1.sl.r_7, run1.sl.r_8, run1.sl.r_9, run1.sl.r_10, run1.sl.r_11, run1.sl.r_12, run1.sl.r_13, run1.sl.r_14, run1.sl.r_15, run1.sl.r_16, rd_lg, rd_b, rd_w]; rfl

/-- The body `cc1__last_body` from its windows held at any contents: the inputs as found, the outputs at the functions above. -/
theorem body1 (c : Dev nD) (M1 : Memref sig .tc .vmem S512x64 .f32) (h1 : M1.IsWhole)
    (M2 : Memref sig .tc .vmem S1x64 .f32) (h2 : M2.IsWhole)
    (M3 : Memref sig .tc .smem S1 .f32) (h3 : M3.IsWhole)
    (M4 : Memref sig .tc .vmem S512x8 .f32) (h4 : M4.IsWhole)
    (M5 : Memref sig .tc .vmem S512x8 .i32) (h5 : M5.IsWhole)
    (M6 : Memref sig .tc .smem S1 .f32) (h6 : M6.IsWhole)
    (X1 : S512x64.Idx → Elt F .f32) (X2 : S1x64.Idx → Elt F .f32) (X3 : S1.Idx → Elt F .f32) (X4 : S512x8.Idx → Elt F .f32) (X5 : S512x8.Idx → Elt F .i32) (X6 : S1.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
      ∗ (iprop(owns (c : Thread nD τ) M1 fullShare X1 ∗ owns (c : Thread nD τ) M2 fullShare X2 ∗ owns (c : Thread nD τ) M3 fullShare X3 ∗ owns (c : Thread nD τ) M4 fullShare (wts1 X1 X2) ∗ owns (c : Thread nD τ) M5 fullShare (idx1 X1 X2) ∗ owns (c : Thread nD τ) M6 fullShare (acc1 X1 X2 X3)) -∗ Q ⟨⟩))
      ⊢ wp frame (wpE (defs₀ (F := F)) Variants.none c none) E (cc1__last_body M1 h1 M2 h2 M3 h3 M4 h4 M5 h5 M6 h6) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1
  subst hf2
  subst hf3
  subst hf4
  subst hf5
  subst hf6
  iapply ((run1 c M1 h1 M2 h2 M3 h3 M4 h4 M5 h5 M6 h6 f1 f2 f3 f4 f5 f6).2.2.2 E Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact run1_4 c M1 h1 M2 h2 M3 h3 M4 h4 M5 h5 M6 h6 f1 f2 f3 f4 f5 f6
  isplitl [H5]; · iexists _; isplitr; swap; (· iexact H5); ipureintro; exact run1_5 c M1 h1 M2 h2 M3 h3 M4 h4 M5 h5 M6 h6 f1 f2 f3 f4 f5 f6
  iexists _; isplitr; swap; (· iexact H6); ipureintro; exact run1_6 c M1 h1 M2 h2 M3 h3 M4 h4 M5 h5 M6 h6 f1 f2 f3 f4 f5 f6

end Cert.Proof.Ki

end
-- ==== Proof.KiData.lean ====
/- The two regions' proof data: what every staging buffer and the scratch word hold after each point, and the regions' body
   obligations. At the first point the first call's two result windows hold garbage (the logits buffer has not been written), and
   that point's block is not written back. -/
module

public import proofs.«01_k».proof.Proof.KiBody
public import proofs.«01_k».proof.Proof.Rel
public import proofs.«01_k».proof.Proof.Gen.KernelIdeal.Regions
public import Idealize.ShloMosaic.Lib.Pipeline.FrameBody
public import Idealize.ShloMosaic.Lib.Pipeline.FrameTail

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf arrRef)

variable {F : FTy → Type} [FloatOps F]

local notation "𝕄" => MT nD τ sig Unit (Elt F) ℕ UU ℕ

variable (V : Dev nD → Valuation τ sig (Elt F))

/-! ### The first call -/

/-- The blocks the first call's input windows hold at a point. -/
abbrev bx (c : Dev nD) (t : Fin cfg0.N) : S512x4096.Idx → Elt F .f32 := ((cfg0.win 0).blk t).view.read (Elt F) (V c (Proc.devRef .tc (arrRef spec0 0)))
abbrev bw1 (c : Dev nD) (t : Fin cfg0.N) : S4096x2048.Idx → Elt F .f32 := ((cfg0.win 1).blk t).view.read (Elt F) (V c (Proc.devRef .tc (arrRef spec0 1)))
abbrev bb1 (c : Dev nD) (t : Fin cfg0.N) : S1x2048.Idx → Elt F .f32 := ((cfg0.win 2).blk t).view.read (Elt F) (V c (Proc.devRef .tc (arrRef spec0 2)))
abbrev bw2 (c : Dev nD) (t : Fin cfg0.N) : S2048x64.Idx → Elt F .f32 := ((cfg0.win 3).blk t).view.read (Elt F) (V c (Proc.devRef .tc (arrRef spec0 3)))
abbrev bb2 (c : Dev nD) (t : Fin cfg0.N) : S1x64.Idx → Elt F .f32 := ((cfg0.win 4).blk t).view.read (Elt F) (V c (Proc.devRef .tc (arrRef spec0 4)))

/-- The logits (without the last bias) of the block of rows fetched at a point. -/
def lgs (c : Dev nD) (t : Fin cfg0.N) : S512x64.Idx → Elt F .f32 := k0_pay2 (bx V c t) (bw1 V c t) (bb1 V c t) (bw2 V c t)

/-- The point before. -/
abbrev prv (t : Fin cfg0.N) : Fin cfg0.N := ⟨t.val - 1, Nat.lt_of_le_of_lt (Nat.sub_le _ _) t.isLt⟩

/-- The running entropy sum's start. -/
def accZ : S1.Idx → Elt F .f32 := fun _ => Scalar.addf (Scalar.ofBits .f32 0x00000000#32) (Scalar.ofBits .f32 0x00000000#32)

/-- The running entropy sum after each point. -/
def accN (c : Dev nD) : ℕ → S1.Idx → Elt F .f32
  | 0 => accZ
  | n + 1 => if h : n + 1 < cfg0.N then acc0 (grid0.coords ⟨n + 1, h⟩) (lgs V c ⟨n, Nat.lt_of_succ_lt h⟩) (bb2 V c ⟨n + 1, h⟩) (accN c n) else accZ

/-- At the first coordinate the running sum is set to its start, whatever was there. -/
theorem acc0_zero (i : grid0.Coords) (h : (i 0).val = 0) (lg : Vec F S512x64 .f32) (b : Vec F S1x64 .f32) (p : S1.Idx → Elt F .f32) :
    acc0 i lg b p = accZ := by
  unfold acc0 accZ; rw [h]; rfl

theorem coords_zero : ∀ t : Fin grid0.N, t.val = 0 → (grid0.coords t 0).val = 0 := by decide +kernel

/-- One point's step of the running sum. -/
theorem acc_step (c : Dev nD) (t : Fin cfg0.N) (X9 : S512x64.Idx → Elt F .f32) (f : S1.Idx → Elt F .f32)
    (h9 : t.val ≠ 0 → X9 = lgs V c (prv t)) (hf : t.val ≠ 0 → f = accN V c (t.val - 1)) :
    acc0 (grid0.coords t) X9 (bb2 V c t) f = accN V c t.val := by
  by_cases h : t.val = 0
  · rw [acc0_zero _ (coords_zero t h), h]; rfl
  · rw [h9 h, hf h]
    obtain ⟨n, hn⟩ := t
    cases n with
    | zero => exact absurd rfl h
    | succ n => rw [accN, dif_pos hn]; rfl

/-- The scoped buffers of the second call: held at something throughout the first. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg5_0), ((c : Thread nD τ).loc cc1_stg5_0) ↦{fullShare} f))

/-- The invariant of the first call: the scratch word holds the running sum of the points done. -/
def Φ0 (c : Dev nD) (t : ℕ) : sProp 𝕄 :=
  iprop(∃ f : S1.Idx → Elt F .f32, ⌜t ≠ 0 → f = accN V c (t - 1)⌝ ∗ owns (c : Thread nD τ) (Memref.whole cc0_scratch0) fullShare f ∗ rest0 (F := F) c)

theorem Φ0_in (c : Dev nD) : (Pipeline.scopedRest (Ix := Unit) (Name := ℕ) (U := UU) (Lvl := ℕ) (Val := Elt F) spec0 c : sProp 𝕄) ⊢ Φ0 V c 0 := by
  rw [scopedRest0_eq]
  unfold Φ0 rest0
  iintro ⟨H1, H2, H3, H4, ⟨%f, H5⟩, H6, H7⟩
  iexists f
  isplitr
  · ipureintro; exact fun h => absurd rfl h
  isplitl [H5]
  · rw [owns_whole_eq]; iexists f; isplitr
    · ipureintro; rfl
    iexact H5
  isplitl [H1]; · iexact H1
  isplitl [H2]; · iexact H2
  isplitl [H3]; · iexact H3
  isplitl [H4]; · iexact H4
  isplitl [H6]; · iexact H6
  iexact H7

theorem Φ0_out (c : Dev nD) (t : ℕ) : Φ0 V c t ⊢ (Pipeline.scopedRest (Ix := Unit) (Name := ℕ) (U := UU) (Lvl := ℕ) (Val := Elt F) spec0 c : sProp 𝕄) := by
  rw [scopedRest0_eq]
  unfold Φ0 rest0
  simp only [owns_whole_eq]
  iintro ⟨%f, -, ⟨%g, -, H5⟩, H1, H2, H3, H4, H6, H7⟩
  isplitl [H1]; · iexact H1
  isplitl [H2]; · iexact H2
  isplitl [H3]; · iexact H3
  isplitl [H4]; · iexact H4
  isplitl [H5]
  · iexists g; iexact H5
  isplitl [H6]; · iexact H6
  iexact H7

/-- The first call's data, from the valuation it is entered at. -/
def dat0 (c : Dev nD) : Dat τ (Elt F) Unit ℕ UU ℕ cfg0 c where
  A w := V c (Proc.devRef .tc (arrRef spec0 w))
  after w t := match w with
    | ⟨0, _⟩ => bx V c t
    | ⟨1, _⟩ => bw1 V c t
    | ⟨2, _⟩ => bb1 V c t
    | ⟨3, _⟩ => bw2 V c t
    | ⟨4, _⟩ => bb2 V c t
    | ⟨5, _⟩ => wts0 (lgs V c (prv t)) (bb2 V c t)
    | ⟨6, _⟩ => idx0 (lgs V c (prv t)) (bb2 V c t)
    | ⟨7, _⟩ => accN V c t.val
    | ⟨8, _⟩ => lgs V c t
  Φ t := Φ0 V c t.val
  q _ := fullShare
  owed _ := 0

/-- The first call's windows whose contents are named only at points written back: the two block results. -/
def fg0 : Fin cfg0.W → Bool := fun w => decide (w.val = 5) || decide (w.val = 6)

/-- What is known of them: after the first point, the exact contents. -/
def Rl0 (c : Dev nD) (w : Fin cfg0.W) (t : Fin cfg0.N) (X : (cfg0.win w).block.Idx → Elt F (cfg0.win w).elt) : Prop :=
  t.val ≠ 0 → X = (dat0 V c).after w t

section
variable (c : Dev nD)

theorem bef0_0 (t : Fin cfg0.N) (d : (cfg0.win 0).block.Idx → Elt F (cfg0.win 0).elt) : (dat0 V c).before 0 t d = bx V c t :=
  (dat0 V c).before_in_eq_fetched 0 rfl (fun _ => rfl) (fun _ _ _ => rfl) (fun _ => rfl) t d

theorem bef0_1 (t : Fin cfg0.N) (d : (cfg0.win 1).block.Idx → Elt F (cfg0.win 1).elt) : (dat0 V c).before 1 t d = bw1 V c t :=
  (dat0 V c).before_in_eq_fetched 1 rfl (fun _ => rfl) (fun _ _ _ => rfl) (fun _ => rfl) t d

theorem bef0_2 (t : Fin cfg0.N) (d : (cfg0.win 2).block.Idx → Elt F (cfg0.win 2).elt) : (dat0 V c).before 2 t d = bb1 V c t :=
  (dat0 V c).before_in_eq_fetched 2 rfl (fun _ => rfl) (fun _ _ _ => rfl) (fun _ => rfl) t d

theorem bef0_3 (t : Fin cfg0.N) (d : (cfg0.win 3).block.Idx → Elt F (cfg0.win 3).elt) : (dat0 V c).before 3 t d = bw2 V c t :=
  (dat0 V c).before_in_eq_fetched 3 rfl (fun _ => rfl) (fun _ _ _ => rfl) (fun _ => rfl) t d

theorem bef0_4 (t : Fin cfg0.N) (d : (cfg0.win 4).block.Idx → Elt F (cfg0.win 4).elt) : (dat0 V c).before 4 t d = bb2 V c t :=
  (dat0 V c).before_in_eq_fetched 4 rfl (fun _ => rfl) (fun _ _ _ => rfl) (fun _ => rfl) t d

theorem bef0_8 (t : Fin cfg0.N) (ht : t.val ≠ 0) (d : (cfg0.win 8).block.Idx → Elt F (cfg0.win 8).elt) : (dat0 V c).before 8 t d = lgs V c (prv t) :=
  (dat0 V c).before_out_kept 8 rfl t ht (by
    have h16 : t.val < 16 := Nat.lt_of_lt_of_eq t.isLt N_0
    cases h : (cfg0.win 8).flush ⟨t.val - 1, Nat.lt_of_le_of_lt (Nat.sub_le _ _) t.isLt⟩
    · rfl
    · have := (flush0_8 _).mp h
      dsimp only at this
      omega) (fun _ => rfl) (fun _ _ => rfl) d

end

/-- The first call's body obligation. -/
theorem bodyOb0 (c : Dev nD) : BodyObligationRel (dat0 V c) (defs₀ (F := F)) Variants.none () Set.univ fg0 (Rl0 V c) := fun t => by
  rw [bigSep_W0, bigSep_W0]
  rw [show (dat0 V c).Φ t.castSucc = Φ0 V c t.val from rfl, show (dat0 V c).Φ t.succ = Φ0 V c (t.val + 1) from rfl,
    show (dat0 V c).owesAt () t.succ = (dat0 V c).owesAt () t.castSucc from rfl]
  show iprop(_ ∗ _ ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d))
      ∗ (∃ d, owns (c : Thread nD τ) (st0_4 t) fullShare ((dat0 V c).before 4 t d))
      ∗ (∃ Y, ⌜((dat0 V c).toRRel fg0 (Rl0 V c)).Finds 5 t Y⌝ ∗ owns (c : Thread nD τ) (st0_5 t) fullShare Y)
      ∗ (∃ Y, ⌜((dat0 V c).toRRel fg0 (Rl0 V c)).Finds 6 t Y⌝ ∗ owns (c : Thread nD τ) (st0_6 t) fullShare Y)
      ∗ (∃ d, owns (c : Thread nD τ) (st0_7 t) fullShare ((dat0 V c).before 7 t d)) ∗ (∃ d, owns (c : Thread nD τ) (st0_8 t) fullShare ((dat0 V c).before 8 t d)))
    ⊢ wp frame _ _ (bodyAt0 t) fun _ => iprop(_ ∗ _ ∗ owns (c : Thread nD τ) (st0_0 t) fullShare (bx V c t) ∗ owns (c : Thread nD τ) (st0_1 t) fullShare (bw1 V c t)
      ∗ owns (c : Thread nD τ) (st0_2 t) fullShare (bb1 V c t) ∗ owns (c : Thread nD τ) (st0_3 t) fullShare (bw2 V c t) ∗ owns (c : Thread nD τ) (st0_4 t) fullShare (bb2 V c t)
      ∗ (∃ X, ⌜Rl0 V c 5 t X⌝ ∗ owns (c : Thread nD τ) (st0_5 t) fullShare X) ∗ (∃ X, ⌜Rl0 V c 6 t X⌝ ∗ owns (c : Thread nD τ) (st0_6 t) fullShare X)
      ∗ owns (c : Thread nD τ) (st0_7 t) fullShare (accN V c t.val) ∗ owns (c : Thread nD τ) (st0_8 t) fullShare (lgs V c t))
  simp only [bef0_0, bef0_1, bef0_2, bef0_3, bef0_4]
  unfold Φ0
  iintro ⟨⟨%f, %hf, HS, Hr⟩, Ho, ⟨%d0, H0⟩, ⟨%d1, H1⟩, ⟨%d2, H2⟩, ⟨%d3, H3⟩, ⟨%d4, H4⟩, ⟨%Y5, -, H5⟩, ⟨%Y6, -, H6⟩, ⟨%d7, H7⟩, ⟨%d8, H8⟩⟩
  have h8 : t.val ≠ 0 → (dat0 V c).before 8 t d8 = lgs V c (prv t) := fun ht => bef0_8 V c t ht d8
  iapply (body0 c (grid0.coords t) (st0_0 t) _ (st0_1 t) _ (st0_2 t) _ (st0_3 t) _ (st0_4 t) _ (st0_5 t) _ (st0_6 t) _ (st0_7 t) _ (st0_8 t) _ (Memref.whole cc0_scratch0) _
    (bx V c t) (bw1 V c t) (bb1 V c t) (bw2 V c t) (bb2 V c t) Y5 Y6 ((dat0 V c).before 7 t d7) ((dat0 V c).before 8 t d8) f Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hr]
  · iexists _; isplitr; swap
    · isplitl [HS]; · iexact HS
      iexact Hr
    ipureintro; exact fun _ => acc_step V c t _ f h8 hf
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; (· iexact H5); ipureintro; exact fun ht => by rw [h8 ht]; rfl
  isplitl [H6]
  · iexists _; isplitr; swap; (· iexact H6); ipureintro; exact fun ht => by rw [h8 ht]; rfl
  isplitl [H7]
  · rw [← acc_step V c t _ f h8 hf]; iexact H7
  iexact H8

/-! ### The second call -/

/-- The blocks the second call's input windows hold. -/
abbrev cl (c : Dev nD) (t : Fin cfg1.N) : S512x64.Idx → Elt F .f32 := ((cfg1.win 0).blk t).view.read (Elt F) (V c (Proc.devRef .tc (arrRef spec1 0)))
abbrev cb2 (c : Dev nD) (t : Fin cfg1.N) : S1x64.Idx → Elt F .f32 := ((cfg1.win 1).blk t).view.read (Elt F) (V c (Proc.devRef .tc (arrRef spec1 1)))
abbrev ce (c : Dev nD) (t : Fin cfg1.N) : S1.Idx → Elt F .f32 := ((cfg1.win 2).blk t).view.read (Elt F) (V c (Proc.devRef .tc (arrRef spec1 2)))

/-- The second call's data, from the valuation it is entered at. -/
def dat1 (c : Dev nD) : Dat τ (Elt F) Unit ℕ UU ℕ cfg1 c where
  A w := V c (Proc.devRef .tc (arrRef spec1 w))
  after w t := match w with
    | ⟨0, _⟩ => cl V c t
    | ⟨1, _⟩ => cb2 V c t
    | ⟨2, _⟩ => ce V c t
    | ⟨3, _⟩ => wts1 (cl V c t) (cb2 V c t)
    | ⟨4, _⟩ => idx1 (cl V c t) (cb2 V c t)
    | ⟨5, _⟩ => acc1 (cl V c t) (cb2 V c t) (ce V c t)
  Φ _ := Pipeline.scopedRest (Ix := Unit) (Name := ℕ) (U := UU) (Lvl := ℕ) (Val := Elt F) spec1 c
  q _ := fullShare
  owed _ := 0

/-- Every window of the second call is exact. -/
def fg1 : Fin cfg1.W → Bool := fun _ => false
def Rl1 (w : Fin cfg1.W) (_ : Fin cfg1.N) (_ : (cfg1.win w).block.Idx → Elt F (cfg1.win w).elt) : Prop := True

theorem bef1_0 (c : Dev nD) (t : Fin cfg1.N) (d : (cfg1.win 0).block.Idx → Elt F (cfg1.win 0).elt) : (dat1 V c).before 0 t d = cl V c t :=
  (dat1 V c).before_in_eq_fetched 0 rfl (fun _ => rfl) (fun _ _ _ => rfl) (fun _ => rfl) t d

theorem bef1_1 (c : Dev nD) (t : Fin cfg1.N) (d : (cfg1.win 1).block.Idx → Elt F (cfg1.win 1).elt) : (dat1 V c).before 1 t d = cb2 V c t :=
  (dat1 V c).before_in_eq_fetched 1 rfl (fun _ => rfl) (fun _ _ _ => rfl) (fun _ => rfl) t d

theorem bef1_2 (c : Dev nD) (t : Fin cfg1.N) (d : (cfg1.win 2).block.Idx → Elt F (cfg1.win 2).elt) : (dat1 V c).before 2 t d = ce V c t :=
  (dat1 V c).before_in_eq_fetched 2 rfl (fun _ => rfl) (fun _ _ _ => rfl) (fun _ => rfl) t d

/-- The second call's body obligation. -/
theorem bodyOb1 (c : Dev nD) : BodyObligationRel (dat1 V c) (defs₀ (F := F)) Variants.none () Set.univ fg1 Rl1 := fun t => by
  rw [bigSep_W1, bigSep_W1]
  rw [show (dat1 V c).Φ t.succ = (dat1 V c).Φ t.castSucc from rfl,
    show (dat1 V c).owesAt () t.succ = (dat1 V c).owesAt () t.castSucc from rfl]
  show iprop(_ ∗ _ ∗ (∃ d, owns (c : Thread nD τ) (st1_0 t) fullShare ((dat1 V c).before 0 t d)) ∗ (∃ d, owns (c : Thread nD τ) (st1_1 t) fullShare ((dat1 V c).before 1 t d))
      ∗ (∃ d, owns (c : Thread nD τ) (st1_2 t) fullShare ((dat1 V c).before 2 t d)) ∗ (∃ d, owns (c : Thread nD τ) (st1_3 t) fullShare ((dat1 V c).before 3 t d))
      ∗ (∃ d, owns (c : Thread nD τ) (st1_4 t) fullShare ((dat1 V c).before 4 t d)) ∗ (∃ d, owns (c : Thread nD τ) (st1_5 t) fullShare ((dat1 V c).before 5 t d)))
    ⊢ wp frame _ _ (bodyAt1 t) fun _ => iprop(_ ∗ _ ∗ owns (c : Thread nD τ) (st1_0 t) fullShare (cl V c t) ∗ owns (c : Thread nD τ) (st1_1 t) fullShare (cb2 V c t)
      ∗ owns (c : Thread nD τ) (st1_2 t) fullShare (ce V c t) ∗ owns (c : Thread nD τ) (st1_3 t) fullShare (wts1 (cl V c t) (cb2 V c t))
      ∗ owns (c : Thread nD τ) (st1_4 t) fullShare (idx1 (cl V c t) (cb2 V c t)) ∗ owns (c : Thread nD τ) (st1_5 t) fullShare (acc1 (cl V c t) (cb2 V c t) (ce V c t)))
  simp only [bef1_0, bef1_1, bef1_2]
  iintro ⟨HΦ, Ho, ⟨%d0, H0⟩, ⟨%d1, H1⟩, ⟨%d2, H2⟩, ⟨%d3, H3⟩, ⟨%d4, H4⟩, ⟨%d5, H5⟩⟩
  iapply (body1 c (st1_0 t) _ (st1_1 t) _ (st1_2 t) _ (st1_3 t) _ (st1_4 t) _ (st1_5 t) _
    (cl V c t) (cb2 V c t) (ce V c t) ((dat1 V c).before 3 t d3) ((dat1 V c).before 4 t d4) ((dat1 V c).before 5 t d5) Set.univ)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.Proof.Ki

end
-- ==== Proof.KiLaunch.lean ====
/- The whole run: host reshapes, the two calls, the host tail. Every fair execution ends with every unscoped buffer at a named
   value and every semaphore at zero; the arguments are as launched. -/
module

public import proofs.«01_k».proof.Proof.KiData
public import Idealize.ShloMosaic.Lib.Pipeline.Regions
public import Idealize.ShloMosaic.Lib.Pipeline.RegionsLoop
public import Idealize.ShloMosaic.Lib.StableHlo.RunHlo

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf arrRef RDat HostSeg)

variable {F : FTy → Type} [FloatOps F]

local notation "𝕄" => MT nD τ sig Unit (Elt F) ℕ UU ℕ

variable (m : (ℓ : Loc nD τ sig) → Buf (Elt F) ℓ) (ρ : Dev nD → PrngReg)

/-! ### The unscoped buffers between the items -/

/-- At the first call: the launch's memory after the host's reshapes. -/
abbrev U1 (c : Dev nD) : Valuation τ sig (Elt F) := StableHlo.after hostOps0 (V0 m c)
/-- After the first call. -/
abbrev U2 (c : Dev nD) : Valuation τ sig (Elt F) := Pipeline.afterRegion (dat0 (U1 m) c) (U1 m c)
/-- After the second call. -/
abbrev U3 (c : Dev nD) : Valuation τ sig (Elt F) := Pipeline.afterRegion (dat1 (U2 m) c) (U2 m c)
/-- At the end. -/
abbrev U4 (c : Dev nD) : Valuation τ sig (Elt F) := StableHlo.after hostOps2 (U3 m c)

/-- The two calls' data. -/
def pdats : (p : Fin 2) → (c : Dev nD) → Dat τ (Elt F) Unit ℕ UU ℕ (Pipeline.pin (pcfgs (F := F)) adm p) c
  | ⟨0, _⟩ => fun c => dat0 (U1 m) c
  | ⟨1, _⟩ => fun c => dat1 (U2 m) c

def fgs : (p : Fin 2) → Fin (Pipeline.pin (pcfgs (F := F)) adm p).W → Bool
  | ⟨0, _⟩ => fg0
  | ⟨1, _⟩ => fg1

def Rls : (p : Fin 2) → (c : Dev nD) → (w : Fin (Pipeline.pin (pcfgs (F := F)) adm p).W) → Fin (Pipeline.pin (pcfgs (F := F)) adm p).N
    → (((Pipeline.pin (pcfgs (F := F)) adm p).win w).block.Idx → Elt F ((Pipeline.pin (pcfgs (F := F)) adm p).win w).elt) → Prop
  | ⟨0, _⟩ => fun c => Rl0 (U1 m) c
  | ⟨1, _⟩ => fun _ => Rl1

/-- No core owes another anything: no level is assigned. -/
abbrev L : GSem nD τ sig → Finset Unit := fun _ => ∅
abbrev lv : GSem nD τ sig → Unit → ℕ := fun _ _ => 0

/-- Of the first call's two block results, the first point's block is not written back. -/
theorem flush_pos : ∀ (t : Fin grid0.N), win0_5.flush t = true ∨ win0_6.flush t = true → t.val ≠ 0 := by decide +kernel

theorem hfl0 (c : Dev nD) (w : Fin cfg0.W) (t : Fin cfg0.N) (X : (cfg0.win w).block.Idx → Elt F (cfg0.win w).elt) (hw : fg0 w = true)
    (hf : (cfg0.win w).flush t = true) (hR : Rl0 (U1 m) c w t X) : X = (dat0 (U1 m) c).after w t :=
  hR (by
    obtain ⟨w, hlt⟩ := w
    have h56 : w = 5 ∨ w = 6 := by simpa [fg0] using hw
    rcases h56 with rfl | rfl
    · exact flush_pos t (Or.inl hf)
    · exact flush_pos t (Or.inr hf))

set_option backward.isDefEq.respectTransparency.types false in
/-- The first call's record: entered at `U1`, left at `U2`. -/
def reg0 : RDat.RegionSeg (pcfgs (F := F)) adm (Rel.rdats (pcfgs (F := F)) adm (pdats m) fgs (Rls m)) () defs₀ Variants.none L lv 0 :=
  Rel.region (pcfgs (F := F)) adm (pdats m) () defs₀ Variants.none L lv fgs (Rls m) 0 launch0.toP rfl
    (fun c => bodyOb0 (U1 m) c) (fun _ _ => rfl) (fun _ => rfl) (fun c w => (dat0 (U1 m) c).share_full (fun _ => rfl) w)
    (fun c w t X hw hf hR => hfl0 m c w t X hw hf hR)
    (fun c => Φ0_in (U1 m) c) (fun c => Φ0_out (U1 m) c _) (U1 m) (U2 m)
    (fun _ _ => rfl) (fun c w => (Pipeline.afterRegion_arr (dat0 (U1 m) c) (U1 m c) winFacts0.arr_inj w).symm)
    (fun c b hb => Pipeline.afterRegion_of_not_arr (dat0 (U1 m) c) (U1 m c) fun w h => hb (h ▸ Finset.mem_image_of_mem _ (Finset.mem_univ w)))

theorem hfl1 (c : Dev nD) (w : Fin cfg1.W) (t : Fin cfg1.N) (X : (cfg1.win w).block.Idx → Elt F (cfg1.win w).elt) (hw : fg1 w = true)
    (_ : (cfg1.win w).flush t = true) (_ : Rl1 w t X) : X = (dat1 (U2 m) c).after w t :=
  absurd hw Bool.false_ne_true

theorem Φ1_in (V : Dev nD → Valuation τ sig (Elt F)) (c : Dev nD) :
    (Pipeline.scopedRest (Ix := Unit) (Name := ℕ) (U := UU) (Lvl := ℕ) (Val := Elt F) spec1 c : sProp 𝕄) ⊢ (dat1 V c).Φ 0 := .rfl
theorem Φ1_out (V : Dev nD → Valuation τ sig (Elt F)) (c : Dev nD) :
    (dat1 V c).Φ (Fin.last cfg1.N) ⊢ (Pipeline.scopedRest (Ix := Unit) (Name := ℕ) (U := UU) (Lvl := ℕ) (Val := Elt F) spec1 c : sProp 𝕄) := .rfl

set_option backward.isDefEq.respectTransparency.types false in
/-- The second call's record: entered at `U2`, left at `U3`. -/
def reg1 : RDat.RegionSeg (pcfgs (F := F)) adm (Rel.rdats (pcfgs (F := F)) adm (pdats m) fgs (Rls m)) () defs₀ Variants.none L lv 1 :=
  Rel.region (pcfgs (F := F)) adm (pdats m) () defs₀ Variants.none L lv fgs (Rls m) 1 launch1.toP rfl
    (fun c => bodyOb1 (U2 m) c) (fun _ _ => rfl) (fun _ => rfl) (fun c w => (dat1 (U2 m) c).share_full (fun _ => rfl) w)
    (fun c w t X hw hf hR => hfl1 m c w t X hw hf hR)
    (fun c => Φ1_in (U2 m) c) (fun c => Φ1_out (U2 m) c) (U2 m) (U3 m)
    (fun _ _ => rfl) (fun c w => (Pipeline.afterRegion_arr (dat1 (U2 m) c) (U2 m c) winFacts1.arr_inj w).symm)
    (fun c b hb => Pipeline.afterRegion_of_not_arr (dat1 (U2 m) c) (U2 m c) fun w h => hb (h ▸ Finset.mem_image_of_mem _ (Finset.mem_univ w)))

/-- What rides beside the unscoped buffers: nothing owed. -/
abbrev Rd (c : Dev nD) : sProp 𝕄 := iprop(∃ W, owes (c : Thread nD τ) (0 : CellTallies nD τ sig Unit) W)

def sg0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rd

def sg3 : HostSeg (Ix := Unit) (Name := ℕ) (U := UU) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) Rd

/-- @main as its four items. -/
abbrev sgs (_ : Dev nD) : List (RDat.Seg (pcfgs (F := F)) adm (Rel.rdats (pcfgs (F := F)) adm (pdats m) fgs (Rls m)) () defs₀ Variants.none L lv) :=
  [.host (sg0 m), .region (reg0 m), .region (reg1 m), .host (sg3 m)]

def u₀ : UU := (initOf (Pipeline.cells cfgs cellOf_inj) (Pipeline.launchToks cfgs cellOf_inj), 1)

set_option backward.isDefEq.respectTransparency.types false in
/-- From any memory with zero counters: every weakly fair execution of @main terminates, every unscoped buffer ends at `U4`, and
    every semaphore counter at zero. -/
theorem run_main : θ_run defs (onTc (τ := τ) (main (F := F))) ⟨m, fun _ => 0, ρ⟩
    (fun r => (∀ c : Dev nD, ∀ b ∈ Pipeline.ucRefs τ sig, r.2.mem (((c : Thread nD τ)).1, b) = U4 m c b) ∧ r.2.sem = fun _ => 0) :=
  RDat.θ_run_regions_kit_dev_sems (pcfgs (F := F)) adm (Rel.rdats (pcfgs (F := F)) adm (pdats m) fgs (Rls m)) () cellOf_inj
    (embL : Emb (UR sig nD τ) 𝕄) defs₀ Variants.none L lv m ρ main (sgs m)
    (fun c Q => by
      rewrite [main_chain c, RDat.Seg.run_eq_chain,
        show (sgs m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [sgs, RDat.Seg.pipes_host, RDat.Seg.pipes_region, RDat.Seg.pipes_nil]; decide) 0 (fun _ _ => rfl) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rd c))
    (Tₙ := fun c => StableHlo.held (c : Thread nD τ) (Pipeline.ucRefs τ sig) (U4 m c))
    (hch := fun c => ⟨.rfl, .rfl, .rfl, .rfl, .rfl⟩)
    (hinit := by
      refine Pipeline.initEach L lv fun c => ?_
      rw [← Pipeline.unscopedBufs_held (Ix := Unit) (Name := ℕ) (U := UU) (Lvl := ℕ) c (V0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = U4 m c b)
    (hfin := fun c s' => by
      unfold StableHlo.held
      iintro ⟨Hh, HSI⟩
      ihave Hr := (pointsTo_read_all (Pipeline.ucRefs τ sig) (fun b => ((c : Thread nD τ).1, b)) (U4 m c) s') $$ [Hh HSI]
      · isplitl [Hh] <;> iassumption
      icases Hr with ⟨%h, HSI⟩
      imodintro
      isplitr
      · ipureintro
        exact h
      · iexact HSI)
    (hQ := fun _ h hz => ⟨h, funext fun g => hz g (.inr (regions_no_unscoped g.2))⟩)

/-! ### The arguments are as launched -/

/-- A buffer the host tail does not write is as after the second call; and so back to the launch. -/
theorem U4_of (c : Dev nD) (r : Ref sig .tc) (h : r ∉ hostOps2_W) : U4 m c r = U3 m c r :=
  StableHlo.after_of_writes_sub hostOps2 _ hostOps2_writes h
theorem U1_of (c : Dev nD) (r : Ref sig .tc) (h : r ∉ hostOps0_W) : U1 m c r = m ((c : Thread nD τ).loc r) :=
  V1_of m c r h

theorem U4_main_arg0 (c : Dev nD) : U4 m c main_arg0 = m ((c : Thread nD τ).loc main_arg0) :=
  (U4_of m c main_arg0 (by decide)).trans <| (Pipeline.afterRegion_of_not_arr (dat1 (U2 m) c) (U2 m c) (b := main_arg0) (by decide)).trans <|
    (Pipeline.afterRegion_arr (dat0 (U1 m) c) (U1 m c) winFacts0.arr_inj 0).trans <| ((dat0 (U1 m) c).arrAt_in 0 rfl _).trans (U1_of m c main_arg0 (by decide))
theorem U4_main_arg1 (c : Dev nD) : U4 m c main_arg1 = m ((c : Thread nD τ).loc main_arg1) :=
  (U4_of m c main_arg1 (by decide)).trans <| (Pipeline.afterRegion_of_not_arr (dat1 (U2 m) c) (U2 m c) (b := main_arg1) (by decide)).trans <|
    (Pipeline.afterRegion_arr (dat0 (U1 m) c) (U1 m c) winFacts0.arr_inj 1).trans <| ((dat0 (U1 m) c).arrAt_in 1 rfl _).trans (U1_of m c main_arg1 (by decide))
theorem U4_main_arg2 (c : Dev nD) : U4 m c main_arg2 = m ((c : Thread nD τ).loc main_arg2) :=
  (U4_of m c main_arg2 (by decide)).trans <| (Pipeline.afterRegion_of_not_arr (dat1 (U2 m) c) (U2 m c) (b := main_arg2) (by decide)).trans <|
    (Pipeline.afterRegion_of_not_arr (dat0 (U1 m) c) (U1 m c) (b := main_arg2) (by decide)).trans (U1_of m c main_arg2 (by decide))
theorem U4_main_arg3 (c : Dev nD) : U4 m c main_arg3 = m ((c : Thread nD τ).loc main_arg3) :=
  (U4_of m c main_arg3 (by decide)).trans <| (Pipeline.afterRegion_of_not_arr (dat1 (U2 m) c) (U2 m c) (b := main_arg3) (by decide)).trans <|
    (Pipeline.afterRegion_arr (dat0 (U1 m) c) (U1 m c) winFacts0.arr_inj 3).trans <| ((dat0 (U1 m) c).arrAt_in 3 rfl _).trans (U1_of m c main_arg3 (by decide))
theorem U4_main_arg4 (c : Dev nD) : U4 m c main_arg4 = m ((c : Thread nD τ).loc main_arg4) :=
  (U4_of m c main_arg4 (by decide)).trans <| (Pipeline.afterRegion_of_not_arr (dat1 (U2 m) c) (U2 m c) (b := main_arg4) (by decide)).trans <|
    (Pipeline.afterRegion_of_not_arr (dat0 (U1 m) c) (U1 m c) (b := main_arg4) (by decide)).trans (U1_of m c main_arg4 (by decide))

/-- A TensorCore buffer that is not scoped is one of the unscoped buffers. -/
theorem mem_uc (b : Ref sig .tc) (h : b.isScoped = false) : (Proc.devRef .tc b : DevRef τ sig) ∈ Pipeline.ucRefs τ sig := Pipeline.devRef_mem_ucRefs h

/-- The frame: the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run_main m ρ) (fun r hr => ⟨fun c =>
    ⟨(hr.1 c _ (mem_uc main_arg0 (by decide))).trans (U4_main_arg0 m c), (hr.1 c _ (mem_uc main_arg1 (by decide))).trans (U4_main_arg1 m c),
      (hr.1 c _ (mem_uc main_arg2 (by decide))).trans (U4_main_arg2 m c), (hr.1 c _ (mem_uc main_arg3 (by decide))).trans (U4_main_arg3 m c),
      (hr.1 c _ (mem_uc main_arg4 (by decide))).trans (U4_main_arg4 m c)⟩, hr.2⟩)

end Cert.Proof.Ki

end
-- ==== Proof.Sel.lean ====
/- Taking the greatest entry of a row again and again: the lanes it finds are the first places of the row's stable descending sort. -/
module

public import Idealize.ShloMosaic.Lib.SortPrefix
public import Idealize.ShloMosaic.PureOps.Ideal
public import Mathlib.Data.Finset.Max
public import Mathlib.Data.Finset.Fold
public import Mathlib.Data.Finset.Lattice.Fold

@[expose] public section

noncomputable section

namespace Cert.Proof.Sel

open Idealize.ShloMosaic

/-- A row of 64 entries. -/
abbrev Row := Fin 64 → EReal

/-- The greatest entry of a row. -/
def top (f : Row) : EReal := Finset.univ.fold max ⊥ f

theorem le_top (f : Row) (l : Fin 64) : f l ≤ top f :=
  (Finset.le_fold_max (f l)).mpr (Or.inr ⟨l, Finset.mem_univ l, le_rfl⟩)

theorem exists_top (f : Row) : ∃ l, f l = top f := by
  obtain ⟨l, -, hl⟩ := Finset.exists_max_image (Finset.univ : Finset (Fin 64)) f ⟨0, Finset.mem_univ 0⟩
  refine ⟨l, le_antisymm (le_top f l) ?_⟩
  exact Finset.fold_max_le (f l) |>.mpr ⟨bot_le, fun x hx => hl x hx⟩

/-- The lanes that hold the greatest entry. -/
def tops (f : Row) : Finset (Fin 64) := Finset.univ.filter fun l => f l = top f

theorem tops_nonempty (f : Row) : (tops f).Nonempty := by
  obtain ⟨l, hl⟩ := exists_top f
  exact ⟨l, Finset.mem_filter.mpr ⟨Finset.mem_univ l, hl⟩⟩

/-- The first lane that holds the greatest entry. -/
def arg (f : Row) : Fin 64 := (tops f).min' (tops_nonempty f)

theorem at_arg (f : Row) : f (arg f) = top f :=
  (Finset.mem_filter.mp (Finset.min'_mem (tops f) (tops_nonempty f))).2

theorem arg_le (f : Row) (l : Fin 64) (h : f l = top f) : arg f ≤ l :=
  Finset.min'_le _ _ (Finset.mem_filter.mpr ⟨Finset.mem_univ l, h⟩)

/-- The row with its first greatest entry overwritten by −1. -/
def strike (f : Row) : Row := fun l => if l = arg f then -1 else f l

/-- The row after `n` rounds. -/
def key (e : Row) : ℕ → Row
  | 0 => e
  | n + 1 => strike (key e n)

/-- The lane that round `n` finds. -/
def pos (e : Row) (n : ℕ) : Fin 64 := arg (key e n)

theorem key_eq (e : Row) (n : ℕ) (l : Fin 64) : key e n l = if ∃ m < n, pos e m = l then -1 else e l := by
  induction n with
  | zero => simp [key]
  | succ n ih =>
    show (if l = arg (key e n) then -1 else key e n l) = _
    by_cases h : l = arg (key e n)
    · rw [if_pos h, if_pos ⟨n, Nat.lt_succ_self n, h.symm⟩]
    · rw [if_neg h, ih]
      refine if_congr ⟨fun ⟨m, hm, e⟩ => ⟨m, by omega, e⟩, fun ⟨m, hm, e'⟩ => ?_⟩ rfl rfl
      rcases Nat.lt_succ_iff_lt_or_eq.mp hm with h' | h'
      · exact ⟨m, h', e'⟩
      · exact absurd (h' ▸ e').symm h

section
variable {e : Row} (h0 : ∀ l, 0 ≤ e l)
include h0

/-- As long as some lane is left, a round finds a lane no earlier round found. -/
theorem pos_fresh {n : ℕ} (hn : n < 64) : ¬ ∃ m < n, pos e m = pos e n := by
  intro hs
  have hk : key e n (pos e n) = -1 := by rw [key_eq, if_pos hs]
  obtain ⟨l, hl⟩ : ∃ l, l ∉ (Finset.range n).image (pos e) := by
    by_contra hc
    push Not at hc
    have h1 : (Finset.univ : Finset (Fin 64)) ⊆ (Finset.range n).image (pos e) := fun l _ => hc l
    have h2 := Finset.card_le_card h1
    have h3 := Finset.card_image_le (s := Finset.range n) (f := pos e)
    rw [Finset.card_univ, Fintype.card_fin] at h2
    rw [Finset.card_range] at h3
    omega
  have hl' : key e n l = e l := by
    rw [key_eq, if_neg]
    rintro ⟨m, hm, rfl⟩
    exact hl (Finset.mem_image.mpr ⟨m, Finset.mem_range.mpr hm, rfl⟩)
  have h1 : (0 : EReal) ≤ -1 := calc
    (0 : EReal) ≤ e l := h0 l
    _ = key e n l := hl'.symm
    _ ≤ top (key e n) := le_top _ _
    _ = key e n (pos e n) := (at_arg _).symm
    _ = -1 := hk
  have h2 : (-1 : EReal) < 0 := by
    rw [show (-1 : EReal) = ((-1 : ℝ) : EReal) by simp]
    exact_mod_cast (by norm_num : (-1 : ℝ) < 0)
  exact absurd h1 (not_le.mpr h2)

theorem pos_ne {m n : ℕ} (hm : m < n) (hn : n < 64) : pos e m ≠ pos e n := fun h => pos_fresh h0 hn ⟨m, hm, h⟩

theorem key_pos {n : ℕ} (hn : n < 64) : key e n (pos e n) = e (pos e n) := by
  rw [key_eq, if_neg (pos_fresh h0 hn)]

theorem top_key {n : ℕ} (hn : n < 64) : top (key e n) = e (pos e n) := (at_arg _).symm.trans (key_pos h0 hn)

/-- An entry no earlier round took is not above the one round `n` takes. -/
theorem le_pos {n : ℕ} (hn : n < 64) (p : Fin 64) (hp : ¬ ∃ m < n, pos e m = p) : e p ≤ e (pos e n) := by
  have h := le_top (key e n) p
  rwa [key_eq, if_neg hp, top_key h0 hn] at h

/-- And if it equals it, its lane is not earlier. -/
theorem pos_le {n : ℕ} (hn : n < 64) (p : Fin 64) (hp : ¬ ∃ m < n, pos e m = p) (he : e p = e (pos e n)) : pos e n ≤ p :=
  arg_le _ _ (by rw [key_eq, if_neg hp, top_key h0 hn, he])

end

/-- Two relations that agree on every pair in which the first is the later position sort the positions alike. -/
theorem stableSort_congr_lt {n : ℕ} (R R' : Fin n → Fin n → Bool) (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_lt {n : ℕ} (R R' : Fin n → Fin n → Bool) (h : ∀ a b : Fin n, a < b → R b a = R' b a) (k : Fin n) :
    sortedFrom R k = sortedFrom R' k := by
  unfold sortedFrom
  have e : sortPositions n R = sortPositions n R' := stableSort_congr_lt R R' h _ (List.pairwise_lt_finRange n)
  rw [List.get_of_eq e]
  rfl

/-- Greater first, and of equal entries the earlier lane. -/
def before (e : Row) (k k' : Fin 64) : Bool := decide (e k' < e k) || (decide (e k = e k') && decide (k < k'))

theorem before_strict (e : Row) : StrictTotalBefore (before e) :=
  StrictTotalBefore.of_key_then_position (fun a b : EReal => decide (b < a)) e (fun a => by simp)
    (fun a b c hab hbc => by
      simp only [decide_eq_true_eq] at *
      exact lt_trans hbc hab)
    (fun a b => by
      simp only [decide_eq_true_eq]
      rcases lt_trichotomy a b with h | h | h
      · exact Or.inr (Or.inr h)
      · exact Or.inr (Or.inl h)
      · exact Or.inl h)

/-- A lane that no round before `n` took is not before the one round `n` takes. -/
theorem not_before {e : Row} (h0 : ∀ l, 0 ≤ e l) {n : ℕ} (hn : n < 64) (p : Fin 64) (hp : ¬ ∃ m < n, pos e m = p) :
    before e p (pos e n) = false := by
  have h1 := le_pos h0 hn p hp
  unfold before
  rw [Bool.or_eq_false_iff, decide_eq_false_iff_not, Bool.and_eq_false_iff, decide_eq_false_iff_not, decide_eq_false_iff_not]
  refine ⟨not_lt.mpr h1, ?_⟩
  by_cases he : e p = e (pos e n)
  · exact Or.inr (not_lt.mpr (pos_le h0 hn p hp he))
  · exact Or.inl he

/-- The stable descending sort of a row of entries none below zero starts with the lanes the first eight rounds find. -/
theorem sortedFrom_eq_pos {e : Row} (h0 : ∀ l, 0 ≤ e l) (R : Fin 64 → Fin 64 → Bool) (hR : ∀ a b, R a b = decide (e b < e a)) (i : Fin 8) :
    sortedFrom R (i.castLE (by decide)) = pos e i.val := by
  rw [sortedFrom_congr_lt R (before e) (fun a b hab => by
    rw [hR]
    unfold before
    rw [decide_eq_false (p := b < a) (not_lt.mpr hab.le), Bool.and_false, Bool.or_false])]
  refine (before_strict e).sortedFrom_eq_of_prefix (by decide) (fun i : Fin 8 => pos e i.val) ?_ ?_ ?_ i
  · intro i j hij
    by_contra hne
    rcases lt_or_gt_of_ne (fun h => hne (Fin.ext h) : i.val ≠ j.val) with h | h
    · exact pos_ne h0 h (by have := j.isLt; omega) hij
    · exact pos_ne h0 h (by have := i.isLt; omega) hij.symm
  · intro i j hij
    refine not_before h0 (by have := i.isLt; omega) _ ?_
    rintro ⟨m, hm, hmj⟩
    exact pos_ne h0 (lt_trans hm hij) (by have := j.isLt; omega) hmj
  · intro i p hp
    refine not_before h0 (by have := i.isLt; omega) _ ?_
    rintro ⟨m, hm, hmp⟩
    exact hp ⟨m, by have := i.isLt; omega⟩ hmp

/-- The least of the lanes that satisfy `P`, the others counted as 64, as the words' signed minimum finds it. -/
theorem fold_minsi_lane (P : Fin 64 → Prop) [DecidablePred P] (a : Fin 64) (ha : P a) (hmin : ∀ l, P l → a ≤ l)
    [Std.Commutative (IntOp.minsi (w := 32))] [Std.Associative (IntOp.minsi (w := 32))] :
    (Finset.univ : Finset (Fin 64)).fold IntOp.minsi 2147483647#32 (fun l => if P l then BitVec.ofNat 32 l.val else 64#32)
      = BitVec.ofNat 32 a.val := by
  have hm : ∀ x y : BitVec 32, (IntOp.minsi x y).toInt = min x.toInt y.toInt := fun x y => by
    unfold IntOp.minsi
    split
    · rename_i h; rw [BitVec.slt_eq_decide, decide_eq_true_eq] at h; rw [min_eq_left h.le]
    · rename_i h; rw [BitVec.slt_eq_decide, decide_eq_true_eq, not_lt] at h; rw [min_eq_right h]
  have hn : ∀ l : Fin 64, (BitVec.ofNat 32 l.val).toInt = l.val := by decide
  apply BitVec.eq_of_toInt_eq
  rw [← Finset.fold_hom (op' := (min : ℤ → ℤ → ℤ)) (m := BitVec.toInt) hm, hn]
  apply le_antisymm
  · rw [Finset.fold_min_le]
    refine Or.inr ⟨a, Finset.mem_univ a, ?_⟩
    rw [if_pos ha, hn]
  · rw [Finset.le_fold_min]
    refine ⟨by have := a.isLt; rw [show (2147483647#32).toInt = 2147483647 from rfl]; omega, fun l _ => ?_⟩
    by_cases h : P l
    · rw [if_pos h, hn]; exact_mod_cast hmin l h
    · rw [if_neg h, show (64#32).toInt = 64 from rfl]; have := a.isLt; omega

end Cert.Proof.Sel
-- ==== Proof.Ent.lean ====
/- The softmax of a row of real logits: its pieces are reals, and its entropy two ways. -/
module

public import proofs.«01_k».proof.Proof.Sel

@[expose] public section

noncomputable section

namespace Cert.Proof.Ent

open Idealize.ShloMosaic Cert.Proof.Sel

/-- An extended real that is a real. -/
def IsReal (x : EReal) : Prop := ∃ r : ℝ, x = (r : EReal)

theorem isReal_zero : IsReal 0 := ⟨0, by simp⟩

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.sub {x y : EReal} (hx : IsReal x) (hy : IsReal y) : IsReal (x - y) := by
  obtain ⟨a, rfl⟩ := hx; obtain ⟨b, rfl⟩ := hy; exact ⟨a - b, by rw [EReal.coe_sub]⟩

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.max {x y : EReal} (hx : IsReal x) (hy : IsReal y) : IsReal (max x y) := by
  rcases max_choice x y with h | h <;> rw [h] <;> assumption

theorem isReal_sum {ι : Type} (s : Finset ι) (f : ι → EReal) (hf : ∀ i ∈ s, IsReal (f i)) : IsReal (∑ i ∈ s, f i) :=
  Finset.sum_induction f IsReal (fun _ _ ha hb => ha.add hb) isReal_zero hf

/-- A value whose magnitude is below infinity is a real. -/
theorem isReal_of_abs_lt {x : EReal} (h : max x (-x) < ⊤) : IsReal x := by
  rw [max_lt_iff] at h
  induction x with
  | bot => simp at h
  | top => simp at h
  | coe r => exact ⟨r, rfl⟩

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The row's logits below their greatest. -/
def dif (L : Row) : Row := fun l => L l - top L

/-- Their exponentials. -/
def ex (L : Row) : Row := fun l => Ideal.exp (dif L l)

/-- The exponentials' sum. -/
def tot (L : Row) : EReal := ∑ l, ex L l

/-- The row's probabilities. -/
def prob (L : Row) : Row := fun l => Ideal.div (ex L l) (tot L)

/-- The row's entropy from the exponentials. -/
def entK (L : Row) : EReal := Ideal.log (tot L) - Ideal.div (∑ l, ex L l * dif L l) (tot L)

/-- The row's entropy from the probabilities. -/
def entR (L : Row) : EReal := -∑ l, prob L l * Ideal.log (prob L l)

theorem ex_nonneg (L : Row) (l : Fin 64) : 0 ≤ ex L l := by
  unfold ex
  generalize dif L l = x
  induction x with
  | bot => simp
  | top => simp
  | coe r => rw [Ideal.exp_coe]; exact_mod_cast (Real.exp_pos r).le

section
variable {L : Row} (hL : ∀ l, IsReal (L l))
include hL

/-- A row of real logits as reals below their greatest. -/
theorem exists_real : ∃ d : Fin 64 → ℝ, (∀ l, dif L l = (d l : EReal)) ∧ (∀ l, ex L l = (Real.exp (d l) : EReal))
    ∧ tot L = ((∑ l, Real.exp (d l) : ℝ) : EReal) ∧ 0 < ∑ l, Real.exp (d l)
    ∧ ∀ l, prob L l = ((Real.exp (d l) / ∑ k, Real.exp (d k) : ℝ) : EReal) := by
  obtain ⟨m, hm⟩ := exists_top L
  have hd : ∀ l, IsReal (dif L l) := fun l => (hL l).sub (hm ▸ hL m)
  choose d hd using hd
  have he : ∀ l, ex L l = (Real.exp (d l) : EReal) := fun l => by unfold ex; rw [hd, Ideal.exp_coe]
  have ht : tot L = ((∑ l, Real.exp (d l) : ℝ) : EReal) := by
    unfold tot
    rw [Finset.sum_congr rfl fun l _ => he l, coe_sum]
  have hp : 0 < ∑ l, Real.exp (d l) := Finset.sum_pos (fun l _ => Real.exp_pos _) ⟨0, Finset.mem_univ 0⟩
  refine ⟨d, hd, he, ht, hp, fun l => ?_⟩
  unfold prob
  rw [he, ht, Ideal.div_coe hp.ne', ← EReal.coe_mul, mul_one_div]

theorem ent_eq : entK L = entR L := by
  obtain ⟨d, hd, he, ht, hp, hpr⟩ := exists_real hL
  have hlog : ∀ l, Ideal.log (prob L l) = ((d l - Real.log (∑ k, Real.exp (d k)) : ℝ) : EReal) := fun l => by
    have h0 : 0 < Real.exp (d l) / ∑ k, Real.exp (d k) := div_pos (Real.exp_pos _) hp
    rw [hpr, Ideal.log_coe, if_neg (not_le.mpr h0), Real.log_div (Real.exp_pos _).ne' hp.ne', Real.log_exp]
  unfold entK entR
  simp only [hlog]
  simp only [hpr, he, hd, ht, ← EReal.coe_mul, coe_sum]
  rw [Ideal.log_coe, if_neg (not_le.mpr hp), Ideal.div_coe hp.ne', ← EReal.coe_mul, ← EReal.coe_sub, ← EReal.coe_neg]
  congr 1
  set s := ∑ k, Real.exp (d k) with hs
  have h1 : ∑ l, Real.exp (d l) / s * (d l - Real.log s) = (∑ l, Real.exp (d l) * d l) * (1 / s) - Real.log s := by
    rw [Finset.sum_congr rfl fun l _ => show Real.exp (d l) / s * (d l - Real.log s) = Real.exp (d l) * d l * (1 / s) - Real.exp (d l) * (Real.log s / s) by ring,
      Finset.sum_sub_distrib, ← Finset.sum_mul, ← Finset.sum_mul, ← hs, mul_div_cancel₀ _ hp.ne']
  rw [h1]; ring

/-- One probability is above another exactly when its exponential is. -/
theorem prob_lt_iff (a b : Fin 64) : prob L b < prob L a ↔ ex L b < ex L a := by
  obtain ⟨d, hd, he, ht, hp, hpr⟩ := exists_real hL
  rw [hpr, hpr, he, he, EReal.coe_lt_coe_iff, EReal.coe_lt_coe_iff, div_lt_div_iff_of_pos_right hp]

/-- Eight of a row's probabilities over their sum are its exponentials over theirs. -/
theorem share_eq (p : Fin 8 → Fin 64) (i : Fin 8) :
    Ideal.div (ex L (p i)) (∑ k, ex L (p k)) = Ideal.div (prob L (p i)) (∑ k, prob L (p k)) := by
  obtain ⟨d, hd, he, ht, hp, hpr⟩ := exists_real hL
  have h8 : 0 < ∑ k, Real.exp (d (p k)) := Finset.sum_pos (fun k _ => Real.exp_pos _) ⟨0, Finset.mem_univ 0⟩
  rw [Finset.sum_congr rfl fun k _ => he (p k), Finset.sum_congr rfl fun k _ => hpr (p k), coe_sum, coe_sum, he, hpr, ← Finset.sum_div,
    Ideal.div_coe h8.ne', Ideal.div_coe (div_pos h8 hp).ne', ← EReal.coe_mul, ← EReal.coe_mul]
  congr 1
  field_simp

end

end Cert.Proof.Ent
-- ==== Proof.Blk.lean ====
/- A block's eight weights, eight lanes and entropy, as the bodies of the two calls compute them, read row by row. -/
module

public import proofs.«01_k».proof.Proof.KiBody
public import proofs.«01_k».proof.Proof.Ent
public import Idealize.ShloMosaic.Lib.Pointwise

@[expose] public section

set_option maxRecDepth 16384

noncomputable section

namespace Cert.Proof.Ki

open Cert.KernelIdeal Cert.KernelIdeal.Gen
open Idealize.ShloMosaic
open Cert.Proof.Sel Cert.Proof.Ent

/-! ### One round on a block -/

/-- Each row's greatest entry. -/
def mxV (K : FVec Ideal S512x64 .f32) : FVec Ideal S512x1 .f32 :=
  shapeCast S512x1 (multiReduction .maximumf [1] S512 K 0xFF800000#32 reduces_S512x64_S512 (.inl rfl) rfl) shapeCasts_S512_S512x1

/-- Each row's first lane among those `c` marks. -/
def lnB (c : IVec S512x64 1) : IVec S512x1 32 :=
  shapeCast S512x1 (multiReductionI .minsi [1] S512 (select c lanes (broadcast S512x64 64#32)) 2147483647#32 reduces_S512x64_S512 rfl)
    shapeCasts_S512_S512x1

/-- The entries equal to their row's greatest. -/
def eqV (K : FVec Ideal S512x64 .f32) : IVec S512x64 1 := cmpf .oeq K (broadcastTo S512x64 (mxV K) broadcasts_S512x1_S512x64)

/-- Each row's first lane that holds its greatest entry. -/
def lnV (K : FVec Ideal S512x64 .f32) : IVec S512x1 32 := lnB (eqV K)

/-- The block with each row's entry at the lane `z` overwritten by −1. -/
def stW (K : FVec Ideal S512x64 .f32) (z : IVec S512x1 32) : FVec Ideal S512x64 .f32 :=
  select (cmpi .eq lanes (broadcastTo S512x64 z broadcasts_S512x1_S512x64)) (broadcast S512x64 (Scalar.ofBits .f32 0xBF800000#32 : Ideal .f32)) K

/-- The block after one round. -/
def stV (K : FVec Ideal S512x64 .f32) : FVec Ideal S512x64 .f32 := stW K (lnV K)

/-- The block after `n` rounds. -/
def keyV (K : FVec Ideal S512x64 .f32) : ℕ → FVec Ideal S512x64 .f32
  | 0 => K
  | n + 1 => stV (keyV K n)

/-- Eight columns side by side. -/
def cat {α : Type} (v0 v1 v2 v3 v4 v5 v6 v7 : S512x1.Idx → α) : S512x8.Idx → α :=
  concatenate S512x8 1 [⟨S512x1, v0⟩, ⟨S512x1, v1⟩, ⟨S512x1, v2⟩, ⟨S512x1, v3⟩, ⟨S512x1, v4⟩, ⟨S512x1, v5⟩, ⟨S512x1, v6⟩, ⟨S512x1, v7⟩]
    concatenates_S512x1_S512x1_S512x1_S512x1_S512x1_S512x1_S512x1_S512x1_S512x8_d1

/-- The columns numbered 0 to 7 side by side. -/
def catN {α : Type} (v : ℕ → S512x1.Idx → α) : S512x8.Idx → α := cat (v 0) (v 1) (v 2) (v 3) (v 4) (v 5) (v 6) (v 7)

/-- Each row over its sum. -/
def shr (w : FVec Ideal S512x8 .f32) : FVec Ideal S512x8 .f32 :=
  divf w (broadcastTo S512x8 (shapeCast S512x1 (multiReduction .add [1] S512 w 0x00000000#32 reduces_S512x8_S512 (.inl rfl) rfl) shapeCasts_S512_S512x1)
    broadcasts_S512x1_S512x8)

section
variable (K : FVec Ideal S512x64 .f32)

theorem r11 : k0_pay11 lanes K (lnV K) = stV K := rfl
theorem r12 : k0_pay12 lanes K (lnV K) = mxV (stV K) := congrArg mxV (r11 K)
theorem r13 : k0_pay13 lanes K (lnV K) = lnV (stV K) := congrArg lnV (r11 K)
theorem r14 : k0_pay14 lanes K (lnV K) = stV (stV K) := congrArg₂ stW (r11 K) (r13 K)
theorem r15 : k0_pay15 lanes K (lnV K) = mxV (stV (stV K)) := congrArg mxV (r14 K)
theorem r16 : k0_pay16 lanes K (lnV K) = lnV (stV (stV K)) := congrArg lnV (r14 K)
theorem r17 : k0_pay17 lanes K (lnV K) = stV (stV (stV K)) := congrArg₂ stW (r14 K) (r16 K)
theorem r18 : k0_pay18 lanes K (lnV K) = mxV (stV (stV (stV K))) := congrArg mxV (r17 K)
theorem r19 : k0_pay19 lanes K (lnV K) = lnV (stV (stV (stV K))) := congrArg lnV (r17 K)
theorem r20 : k0_pay20 lanes K (lnV K) = stV (stV (stV (stV K))) := congrArg₂ stW (r17 K) (r19 K)
theorem r21 : k0_pay21 lanes K (lnV K) = mxV (stV (stV (stV (stV K)))) := congrArg mxV (r20 K)
theorem r22 : k0_pay22 lanes K (lnV K) = eqV (stV (stV (stV (stV K)))) := congrArg eqV (r20 K)
theorem r24 : k0_pay24 lanes (eqV K) k0_pay23 = lnV K := rfl
theorem r25 : k0_pay25 lanes K (eqV K) k0_pay23 = stV K := congrArg (stW K) (r24 K)
theorem r26 : k0_pay26 lanes K (eqV K) k0_pay23 = mxV (stV K) := congrArg mxV (r25 K)
theorem r27 : k0_pay27 lanes K (eqV K) k0_pay23 = lnV (stV K) := congrArg lnV (r25 K)
theorem r28 : k0_pay28 lanes K (eqV K) k0_pay23 = stV (stV K) := congrArg₂ stW (r25 K) (r27 K)
theorem r29 : k0_pay29 lanes K (eqV K) k0_pay23 = mxV (stV (stV K)) := congrArg mxV (r28 K)
theorem r30 : lnV (k0_pay28 lanes K (eqV K) k0_pay23) = lnV (stV (stV K)) := congrArg lnV (r28 K)

end

/-- The weights of a block of exponentials: the eight rounds' greatest entries over their sum. -/
def wtsV (K : FVec Ideal S512x64 .f32) : FVec Ideal S512x8 .f32 := shr (catN fun n => mxV (keyV K n))

/-- The lanes of a block of exponentials: those the eight rounds find. -/
def idxV (K : FVec Ideal S512x64 .f32) : IVec S512x8 32 := catN fun n => lnV (keyV K n)

theorem r31 (v25 v37 v49 v61 v73 v85 : FVec Ideal S512x1 .f32) (K : FVec Ideal S512x64 .f32) :
    k0_pay31 lanes v25 v37 v49 v61 v73 K v85 (eqV K) k0_pay23 = shr (cat v25 v37 v49 v61 v73 v85 (mxV (stV K)) (mxV (stV (stV K)))) := by
  rw [← r26, ← r29]; rfl

theorem r30' (v31 v43 v55 v67 v79 : IVec S512x1 32) (K : FVec Ideal S512x64 .f32) :
    k0_pay30 lanes v31 v43 v55 v67 v79 K (eqV K) k0_pay23 = cat v31 v43 v55 v67 v79 (lnV K) (lnV (stV K)) (lnV (stV (stV K))) := by
  rw [← r30, ← r27, ← r24]; rfl

theorem wts0_eq (lg : Vec Ideal S512x64 .f32) (b : Vec Ideal S1x64 .f32) : wts0 lg b = wtsV (k0_pay4 lg b) := by
  have e8 : k0_pay8 lg b = stV (k0_pay4 lg b) := rfl
  have e10 : k0_pay10 lg b = lnV (k0_pay8 lg b) := rfl
  have e9 : k0_pay9 lg b = mxV (k0_pay8 lg b) := rfl
  have e6 : k0_pay6 lg b = mxV (k0_pay4 lg b) := rfl
  unfold wts0
  rw [e10, r12, r15, r18, r20, r21, r22, r31, e6, e9, e8]
  rfl

theorem idx0_eq (lg : Vec Ideal S512x64 .f32) (b : Vec Ideal S1x64 .f32) : idx0 lg b = idxV (k0_pay4 lg b) := by
  have e7 : k0_pay7 lg b = lnV (k0_pay4 lg b) := rfl
  have e8 : k0_pay8 lg b = stV (k0_pay4 lg b) := rfl
  have e10 : k0_pay10 lg b = lnV (k0_pay8 lg b) := rfl
  unfold idx0
  rw [e10, r13, r16, r19, r20, r22, r30', e7, e8]
  rfl

/-! ### The second call's bodies are the same functions -/

theorem wts1_eq (lg : Vec Ideal S512x64 .f32) (b : Vec Ideal S1x64 .f32) : wts1 lg b = wts0 lg b := rfl

theorem idx1_eq (lg : Vec Ideal S512x64 .f32) (b : Vec Ideal S1x64 .f32) : idx1 lg b = idx0 lg b := rfl

theorem ent1_eq (lg : Vec Ideal S512x64 .f32) (b : Vec Ideal S1x64 .f32) : k1_pay12 lg b = k0_pay5 lg b := rfl

/-! ### Row by row -/

/-- Row `r` of a block. -/
def row (K : FVec Ideal S512x64 .f32) (r : Fin 512) : Row := fun l => K (ix2 r l)

theorem ofBits_neg_inf : Ideal.ofBits .f32 0xFF800000#32 = ⊥ := by simp [Ideal.ofBits, Ideal.ieee]

theorem ofBits_neg_one : Ideal.ofBits .f32 0xBF800000#32 = -1 := by
  rw [show (-1 : EReal) = ((-1 : ℝ) : EReal) by simp]
  simp [Ideal.ofBits, Ideal.ieee, -EReal.coe_mul, -EReal.coe_neg]; norm_num

theorem mxV_at (K : FVec Ideal S512x64 .f32) (r : Fin 512) (z : Fin 1) : mxV K (ix2 r z) = top (row K r) := by
  pointwise [mxV]
  rw [ofBits_neg_inf]
  rfl

theorem eqV_at (K : FVec Ideal S512x64 .f32) (r : Fin 512) (l : Fin 64) : eqV K (ix2 r l) = BitVec.ofBool (decide (row K r l = top (row K r))) := by
  pointwise [eqV]
  rw [mxV_at]
  rfl

theorem lnV_at (K : FVec Ideal S512x64 .f32) (r : Fin 512) (z : Fin 1) : lnV K (ix2 r z) = BitVec.ofNat 32 (arg (row K r)).val := by
  rw [← fold_minsi_lane (fun l => row K r l = top (row K r)) (arg (row K r)) (at_arg _) (arg_le _)]
  pointwise [lnV, lnB, lanes]
  simp only [eqV_at]
  refine Finset.fold_congr fun l _ => ?_
  by_cases h : row K r l = top (row K r) <;> simp [h, Scalar.select]

end Cert.Proof.Ki
-- ==== Proof.BlkRow.lean ====
/- A block's eight weights, eight lanes and entropy as functions of its rows of logits. -/
module

public import proofs.«01_k».proof.Proof.Blk

@[expose] public section

set_option maxRecDepth 16384

noncomputable section

namespace Cert.Proof.Ki

open Cert.KernelIdeal Cert.KernelIdeal.Gen
open Idealize.ShloMosaic
open Cert.Proof.Sel Cert.Proof.Ent

theorem row_stV (K : FVec Ideal S512x64 .f32) (r : Fin 512) : row (stV K) r = strike (row K r) := by
  funext l
  have hw : ∀ a b : Fin 64, (BitVec.ofNat 32 a.val == BitVec.ofNat 32 b.val) = decide (a = b) := by decide
  unfold strike
  show stV K (ix2 r l) = _
  pointwise [stV, stW, lanes]
  rw [lnV_at, ofBits_neg_one]
  show Scalar.select (BitVec.ofBool (BitVec.ofNat 32 l.val == BitVec.ofNat 32 (arg (row K r)).val)) _ _ = _
  rw [hw]
  by_cases h : l = arg (row K r) <;> simp [h, Scalar.select, row]

theorem row_keyV (K : FVec Ideal S512x64 .f32) (r : Fin 512) (n : ℕ) : row (keyV K n) r = key (row K r) n := by
  induction n with
  | zero => rfl
  | succ n ih => exact (row_stV _ r).trans (congrArg strike ih)

theorem catN_at {α : Type} (v : ℕ → S512x1.Idx → α) (r : Fin 512) (k : Fin 8) : catN v (ix2 r k) = v k.val (ix2 r 0) := by
  pointwise [catN, cat]
  fin_vals k with hk
  all_goals simp only [hk, Nat.reduceSub, Nat.reduceLT, ↓reduceDIte, ↓reduceIte]
  all_goals rfl

/-- Row `r` of the logits a block is given: the products of the second matrix, and the second bias. -/
def lgRow (lg : Vec Ideal S512x64 .f32) (b : Vec Ideal S1x64 .f32) (r : Fin 512) : Row := fun l => (lg (ix2 r l) : EReal) + (b (ix2 0 l) : EReal)

theorem dif_at (lg : Vec Ideal S512x64 .f32) (b : Vec Ideal S1x64 .f32) (r : Fin 512) (l : Fin 64) : k0_pay3 lg b (ix2 r l) = dif (lgRow lg b r) l := by
  pointwise [k0_pay3]
  rw [ofBits_neg_inf]
  rfl

theorem ex_at (lg : Vec Ideal S512x64 .f32) (b : Vec Ideal S1x64 .f32) (r : Fin 512) (l : Fin 64) : k0_pay4 lg b (ix2 r l) = ex (lgRow lg b r) l := by
  show Ideal.exp (k0_pay3 lg b (ix2 r l)) = _
  rw [dif_at]; rfl

theorem row_ex (lg : Vec Ideal S512x64 .f32) (b : Vec Ideal S1x64 .f32) (r : Fin 512) : row (k0_pay4 lg b) r = ex (lgRow lg b r) :=
  funext fun l => ex_at lg b r l

/-- The weights of a block at a row: the chosen exponentials over their sum. -/
theorem wts0_at (lg : Vec Ideal S512x64 .f32) (b : Vec Ideal S1x64 .f32) (r : Fin 512) (k : Fin 8) :
    wts0 lg b (ix2 r k) = Ideal.div (ex (lgRow lg b r) (pos (ex (lgRow lg b r)) k.val)) (∑ j : Fin 8, ex (lgRow lg b r) (pos (ex (lgRow lg b r)) j.val)) := by
  have hc : ∀ j : Fin 8, catN (fun n => mxV (keyV (k0_pay4 lg b) n)) (ix2 r j) = ex (lgRow lg b r) (pos (ex (lgRow lg b r)) j.val) := fun j => by
    rw [catN_at, mxV_at, row_keyV, row_ex, top_key (ex_nonneg _) (by have := j.isLt; omega)]
  rw [wts0_eq]
  unfold wtsV
  generalize catN (fun n => mxV (keyV (k0_pay4 lg b) n)) = w at hc ⊢
  pointwise [shr]
  simp only [hc]

/-- The lanes of a block at a row: those the rounds find. -/
theorem idx0_at (lg : Vec Ideal S512x64 .f32) (b : Vec Ideal S1x64 .f32) (r : Fin 512) (k : Fin 8) :
    idx0 lg b (ix2 r k) = BitVec.ofNat 32 (pos (ex (lgRow lg b r)) k.val).val := by
  rw [idx0_eq]
  unfold idxV
  rw [catN_at, lnV_at, row_keyV, row_ex]
  rfl

/-- The entropy of a block: the sum of its rows'. -/
theorem ent_at (lg : Vec Ideal S512x64 .f32) (b : Vec Ideal S1x64 .f32) : k0_pay5 lg b = ∑ r : Fin 512, entK (lgRow lg b r) := by
  pointwise [k0_pay5]
  simp only [dif_at, ex_at, Finset.univ_unique, Finset.sum_singleton]
  rfl

/-- The running sum after a point past the first: what was there and the block's entropy. -/
theorem acc0_pos (i : grid0.Coords) (hi : (i 0).val ≠ 0) (hlt : (i 0).val < 2 ^ 32) (lg : Vec Ideal S512x64 .f32) (b : Vec Ideal S1x64 .f32)
    (prev : S1.Idx → Elt Ideal .f32) (x : EReal) (hx : ∀ j, prev j = x) (j : S1.Idx) :
    acc0 i lg b prev j = x + ∑ r : Fin 512, entK (lgRow lg b r) := by
  have hz : (Scalar.cmpi .eq (BitVec.ofNat 32 (i 0).val) 0#32) = 0#1 := by
    show BitVec.ofBool (BitVec.ofNat 32 (i 0).val == 0#32) = 0#1
    rw [beq_eq_false_iff_ne.mpr]
    · rfl
    · intro h
      have h' := congrArg BitVec.toNat h
      rw [BitVec.toNat_ofNat, Nat.mod_eq_of_lt hlt] at h'
      exact hi h'
  unfold acc0 k0_pay1 k0_pay32
  simp only [hz]
  rw [ent_at, hx]
  rfl

theorem acc1_at (lg : Vec Ideal S512x64 .f32) (b : Vec Ideal S1x64 .f32) (prev : S1.Idx → Elt Ideal .f32) (x : EReal) (hx : ∀ j, prev j = x) (j : S1.Idx) :
    acc1 lg b prev j = x + ∑ r : Fin 512, entK (lgRow lg b r) := by
  unfold acc1 k1_pay9
  rw [ent1_eq, ent_at, hx]
  rfl

/-- A block's products at a row and lane. -/
theorem lg_at (x : Vec Ideal S512x4096 .f32) (w1 : Vec Ideal S4096x2048 .f32) (b1 : Vec Ideal S1x2048 .f32) (w2 : Vec Ideal S2048x64 .f32) (r : Fin 512) (l : Fin 64) :
    k0_pay2 x w1 b1 w2 (ix2 r l)
      = ∑ k : Fin 2048, max ((∑ j : Fin 4096, (x (ix2 r j) : EReal) * (w1 (ix2 j k) : EReal)) + (b1 (ix2 0 k) : EReal)) 0 * (w2 (ix2 k l) : EReal) := by
  pointwise [k0_pay2]

end Cert.Proof.Ki
-- ==== Proof.RefRow.lean ====
/- The reference's three results as functions of the rows of its logits. -/
module

public import proofs.«01_k».proof.Proof.Gen.ReferenceIdeal
public import proofs.«01_k».proof.Proof.Gen.ReferenceIdeal.Run
public import proofs.«01_k».proof.Proof.Ent
public import Idealize.ShloMosaic.Lib.Pointwise

@[expose] public section

set_option maxRecDepth 16384

noncomputable section

namespace Cert.Proof.Ri

open Cert.ReferenceIdeal Cert.ReferenceIdeal.Gen
open Idealize.ShloMosaic
open Cert.Proof.Sel Cert.Proof.Ent

section
variable (X : FVec Ideal S8192x4096 .f32) (W1 : FVec Ideal S4096x2048 .f32) (B1 : FVec Ideal S2048 .f32) (W2 : FVec Ideal S2048x64 .f32)
  (B2 : FVec Ideal S64 .f32)

/-- The logits, as the reference computes them. -/
def logits : FVec Ideal S8192x64 .f32 :=
  addf (Host.dotGeneral dot_S8192x2048_S2048x64_S8192x64_1_0_0_1_n_n none
      (maximumf (addf (Host.dotGeneral dot_S8192x4096_S4096x2048_S8192x2048_1_0_0_1_n_n none X W1)
        (broadcastInDim S8192x2048 ![0, 1] bcast_S1x2048_S8192x2048_0_1 (broadcastInDim S1x2048 ![1] bcast_S2048_S1x2048_1 B1)))
        (broadcastInDim S8192x2048 ![] bcast_S_S8192x2048 (constant S_ .f32 0x00000000#32))) W2)
    (broadcastInDim S8192x64 ![0, 1] bcast_S1x64_S8192x64_0_1 (broadcastInDim S1x64 ![1] bcast_S64_S1x64_1 B2))

/-- Row `R` of the logits: every sum in the exact order of the mathematics. -/
def lrow (R : Fin 8192) : Row := fun l =>
  (∑ k : Fin 2048, max ((∑ j : Fin 4096, (X (ix2 R j) : EReal) * (W1 (ix2 j k) : EReal)) + (B1 (ix1 k) : EReal)) 0 * (W2 (ix2 k l) : EReal)) + (B2 (ix1 l) : EReal)

theorem logits_at (R : Fin 8192) (l : Fin 64) : logits X W1 B1 W2 B2 (ix2 R l) = lrow X W1 B1 W2 B2 R l := by
  pointwise [logits]
  rfl

end

/-- A matrix spread down its rows from a vector with an entry for each row. -/
def down (v : FVec Ideal S8192 .f32) : FVec Ideal S8192x64 .f32 :=
  broadcastInDim S8192x64 ![0, 1] bcast_S8192x1_S8192x64_0_1 (broadcastInDim S8192x1 ![0] bcast_S8192_S8192x1_0 v)

/-- The logits below their row's greatest. -/
def difs (g : FVec Ideal S8192x64 .f32) : FVec Ideal S8192x64 .f32 :=
  subf g (down (maximumf (broadcastInDim S8192 ![] bcast_S_S8192 (constant S_ .f32 0xFF800000#32))
    (Host.reduce FloatOps.maximumf g (constant S_ .f32 0xFF800000#32) reducesTo_S8192x64_S8192_d1 h_S_)))

/-- The probabilities. -/
def probs (g : FVec Ideal S8192x64 .f32) : FVec Ideal S8192x64 .f32 :=
  Host.divf (Host.exp (difs g)) (down (Host.reduceAdd (Host.exp (difs g)) (constant S_ .f32 0x00000000#32) reducesTo_S8192x64_S8192_d1 h_S_))

/-- The eight greatest entries of each row and their lanes. -/
def best (p : FVec Ideal S8192x64 .f32) : (S8192x8.Idx → Ideal .f32) × IVec S8192x8 32 :=
  Host.topK S8192x8 1 (FloatOps.cmpfTotal .gt) p sliceFits_S8192x64_S8192x8

/-- Each row over its sum. -/
def share (w : FVec Ideal S8192x8 .f32) : FVec Ideal S8192x8 .f32 :=
  Host.divf w (broadcastInDim S8192x8 ![0, 1] bcast_S8192x1_S8192x8_0_1 (broadcastInDim S8192x1 ![0] bcast_S8192_S8192x1_0
    (Host.reduceAdd w (constant S_ .f32 0x00000000#32) reducesTo_S8192x8_S8192_d1 h_S_)))

/-- The mean entropy over the logarithm of 64. -/
def unc (p : FVec Ideal S8192x64 .f32) : FVec Ideal S_ .f32 :=
  Host.divf (Host.divf (Host.reduceAdd (Host.negf (Host.reduceAdd (mulf p (Host.log p)) (constant S_ .f32 0x00000000#32) reducesTo_S8192x64_S8192_d1 h_S_))
    (constant S_ .f32 0x00000000#32) reducesTo_S8192_S_d0 h_S_) (constant S_ .f32 0x46000000#32)) (Host.log (constant S_ .f32 0x42800000#32))

/-- Row `R` of a matrix. -/
def row (g : FVec Ideal S8192x64 .f32) (R : Fin 8192) : Row := fun l => g (ix2 R l)

theorem ofBits_neg_inf : Ideal.ofBits .f32 0xFF800000#32 = ⊥ := by simp [Ideal.ofBits, Ideal.ieee]

theorem difs_at (g : FVec Ideal S8192x64 .f32) (R : Fin 8192) (l : Fin 64) : difs g (ix2 R l) = dif (row g R) l := by
  pointwise [difs, down]
  rw [ofBits_neg_inf]
  simp only [bot_le, sup_of_le_right]
  rfl

theorem exps_at (g : FVec Ideal S8192x64 .f32) (R : Fin 8192) (l : Fin 64) : Host.exp (difs g) (ix2 R l) = ex (row g R) l := by
  show Ideal.exp (difs g (ix2 R l)) = _
  rw [difs_at]; rfl

theorem probs_at (g : FVec Ideal S8192x64 .f32) (R : Fin 8192) (l : Fin 64) : probs g (ix2 R l) = prob (row g R) l := by
  unfold probs
  have h := exps_at g
  generalize Host.exp (difs g) = e at h ⊢
  pointwise [down]
  simp only [h]
  rfl

theorem row_probs (g : FVec Ideal S8192x64 .f32) (R : Fin 8192) : row (probs g) R = prob (row g R) := funext fun l => probs_at g R l

/-- The sort's order of the lanes of a row. -/
def ahead (f : Row) (a b : Fin 64) : Bool := Ideal.cmpTotal .gt (f a) (f b) == 1#1

theorem ahead_eq (f : Row) (a b : Fin 64) : ahead f a b = decide (f b < f a) := by
  show (BitVec.ofBool (decide (f b < f a)) == 1#1) = _
  by_cases h : f b < f a <;> simp [h]

/-- Lane `q` of the row an index lies in. -/
def turned (R : Fin 8192) (l q : Fin 64) : S8192x64.Idx := Shape.Idx.along (s := S8192x64) (ix2 R l) 1 q

theorem turned_eq (R : Fin 8192) (l q : Fin 64) : turned R l q = ix2 R q := by
  funext a; apply Fin.ext
  match a with
  | ⟨0, _⟩ => rfl
  | ⟨1, _⟩ => rfl

/-- The order the sort puts on the lanes seen from lane `l`. -/
def seen (p : FVec Ideal S8192x64 .f32) (R : Fin 8192) (l a b : Fin 64) : Bool :=
  FloatOps.cmpfTotal (F := Ideal) (φ := .f32) .gt (p (turned R l a)) (p (turned R l b)) == 1#1

theorem seen_eq (p : FVec Ideal S8192x64 .f32) (R : Fin 8192) (l : Fin 64) : seen p R l = ahead (row p R) := by
  funext a b
  unfold seen
  rw [turned_eq, turned_eq]
  rfl

theorem best_at (p : FVec Ideal S8192x64 .f32) (R : Fin 8192) (k : Fin 8) :
    (best p).1 (ix2 R k) = row p R (sortedFrom (ahead (row p R)) (k.castLE (by decide)))
      ∧ (best p).2 (ix2 R k) = BitVec.ofNat 32 (sortedFrom (ahead (row p R)) (k.castLE (by decide))).val := by
  have e1 : (best p).1 (ix2 R k) = p (turned R (k.castLE (by decide)) (sortedFrom (seen p R (k.castLE (by decide))) (k.castLE (by decide)))) := by
    unfold best Host.topK Host.sort2
    pointwise []
    rfl
  have e2 : (best p).2 (ix2 R k) = BitVec.ofNat 32 ((turned R (k.castLE (by decide)) (sortedFrom (seen p R (k.castLE (by decide))) (k.castLE (by decide)))) 1).val := by
    unfold best Host.topK Host.sort2
    pointwise []
    rfl
  rw [e1, e2, seen_eq, turned_eq]
  exact ⟨rfl, rfl⟩

section
variable (g : FVec Ideal S8192x64 .f32) (R : Fin 8192) (hL : ∀ l, IsReal (row g R l)) (k : Fin 8)
include hL

theorem sorted_row : sortedFrom (ahead (row (probs g) R)) (k.castLE (by decide)) = pos (ex (row g R)) k.val := by
  refine sortedFrom_eq_pos (ex_nonneg _) _ (fun a b => ?_) k
  rw [ahead_eq, row_probs]
  exact decide_eq_decide.mpr (prob_lt_iff hL a b)

theorem best_val : (best (probs g)).1 (ix2 R k) = prob (row g R) (pos (ex (row g R)) k.val) := by
  rw [(best_at _ _ _).1, sorted_row g R hL, row_probs]

theorem best_idx : (best (probs g)).2 (ix2 R k) = BitVec.ofNat 32 (pos (ex (row g R)) k.val).val := by
  rw [(best_at _ _ _).2, sorted_row g R hL]

theorem share_at : share (best (probs g)).1 (ix2 R k)
    = Ideal.div (ex (row g R) (pos (ex (row g R)) k.val)) (∑ j : Fin 8, ex (row g R) (pos (ex (row g R)) j.val)) := by
  have h := fun j => best_val g R hL j
  generalize (best (probs g)).1 = w at h ⊢
  rw [share_eq hL (fun j => pos (ex (row g R)) j.val) k]
  pointwise [share]
  simp only [h]

end

theorem unc_at (g : FVec Ideal S8192x64 .f32) : unc (probs g) ix0
    = Ideal.div (Ideal.div (∑ R : Fin 8192, entR (row g R)) (Ideal.ofBits .f32 0x46000000#32)) (Ideal.log (Ideal.ofBits .f32 0x42800000#32)) := by
  have h := probs_at g
  generalize probs g = p at h ⊢
  pointwise [unc]
  simp only [h]
  rfl

end Cert.Proof.Ri
-- ==== Proof.KiBlocks.lean ====
/- What the blocks of the first call hold, row by row of the launch's arguments, and the running entropy sum. -/
module

public import proofs.«01_k».proof.Proof.KiLaunch
public import proofs.«01_k».proof.Proof.BlkRow
public import proofs.«01_k».proof.Proof.RefRow
public import Idealize.ShloMosaic.Lib.Pipeline.ValueKit.Geometry
public import Idealize.ShloMosaic.Lib.StableHlo.Run

@[expose] public section

set_option maxRecDepth 16384

noncomputable section

namespace Cert.Proof.Ki

open Cert.KernelIdeal Cert.KernelIdeal.Gen
open Idealize.ShloMosaic Idealize.ShloMosaic.TcCoe
open Idealize.ShloMosaic.Pipeline (Dat Cfg Window arrRef)
open Cert.Proof.Sel Cert.Proof.Ent

variable (m : (ℓ : Loc nD τ sig) → Buf (Elt Ideal) ℓ) (c : Dev nD)

/-- Row `n` of the logits of the launch's arguments (zero past the last row). -/
def Lr (n : ℕ) : Row := if h : n < 8192 then
    Ri.lrow (m ((c : Thread nD τ).loc main_arg0)) (m ((c : Thread nD τ).loc main_arg1)) (m ((c : Thread nD τ).loc main_arg2))
      (m ((c : Thread nD τ).loc main_arg3)) (m ((c : Thread nD τ).loc main_arg4)) ⟨n, h⟩
  else fun _ => 0

theorem Lr_of (n : ℕ) (h : n < 8192) : Lr m c n = Ri.lrow (m ((c : Thread nD τ).loc main_arg0)) (m ((c : Thread nD τ).loc main_arg1)) (m ((c : Thread nD τ).loc main_arg2))
      (m ((c : Thread nD τ).loc main_arg3)) (m ((c : Thread nD τ).loc main_arg4)) ⟨n, h⟩ := dif_pos h

/-- The entropy of row `n`, the kernel's way. -/
def Er (n : ℕ) : EReal := entK (Lr m c n)

theorem ix0_0 : ∀ t : Fin grid0.N, win0_0.index t = ![t.val, 0] := by decide +kernel
theorem ix0_1 : ∀ t : Fin grid0.N, win0_1.index t = ![0, 0] := by decide +kernel
theorem ix0_2 : ∀ t : Fin grid0.N, win0_2.index t = ![0, 0] := by decide +kernel
theorem ix0_3 : ∀ t : Fin grid0.N, win0_3.index t = ![0, 0] := by decide +kernel
theorem ix0_4 : ∀ t : Fin grid0.N, win0_4.index t = ![0, 0] := by decide +kernel

/-- The two biases as the first call's matrices of one row. -/
theorem U1_v0 : U1 m c main_v0 = shapeCast S1x2048 (m ((c : Thread nD τ).loc main_arg2)) shapeCasts_S2048_S1x2048 := by
  after_results_simp
  rfl
theorem U1_v1 : U1 m c main_v1 = shapeCast S1x64 (m ((c : Thread nD τ).loc main_arg4)) shapeCasts_S64_S1x64 := by
  after_results_simp
  rfl

theorem U1_v0_at (k : Fin 2048) : (U1 m c main_v0 : S1x2048.Idx → EReal) (ix2 0 k) = (m ((c : Thread nD τ).loc main_arg2) : S2048.Idx → EReal) (ix1 k) := by
  rw [U1_v0]
  pointwise []
theorem U1_v1_at (k : Fin 64) : (U1 m c main_v1 : S1x64.Idx → EReal) (ix2 0 k) = (m ((c : Thread nD τ).loc main_arg4) : S64.Idx → EReal) (ix1 k) := by
  rw [U1_v1]
  pointwise []

theorem bx_at (t : Fin cfg0.N) (r : Fin 512) (j : Fin 4096) (h : 512 * t.val + r.val < 8192) :
    bx (U1 m) c t (ix2 r j) = (m ((c : Thread nD τ).loc main_arg0) : S8192x4096.Idx → EReal) (ix2 ⟨512 * t.val + r.val, h⟩ j) := by
  rw [← U1_of m c main_arg0 (by decide)]
  blk_simp [bx]
  refine congrArg _ ?_
  blk_ext [ix0_0]

theorem bw1_at (t : Fin cfg0.N) (j : Fin 4096) (k : Fin 2048) :
    bw1 (U1 m) c t (ix2 j k) = (m ((c : Thread nD τ).loc main_arg1) : S4096x2048.Idx → EReal) (ix2 j k) := by
  rw [← U1_of m c main_arg1 (by decide)]
  blk_simp [bw1]
  refine congrArg _ ?_
  blk_ext [ix0_1]

theorem bb1_at (t : Fin cfg0.N) (k : Fin 2048) :
    bb1 (U1 m) c t (ix2 0 k) = (m ((c : Thread nD τ).loc main_arg2) : S2048.Idx → EReal) (ix1 k) := by
  rw [← U1_v0_at m c]
  blk_simp [bb1]
  refine congrArg _ ?_
  blk_ext [ix0_2]

theorem bw2_at (t : Fin cfg0.N) (k : Fin 2048) (l : Fin 64) :
    bw2 (U1 m) c t (ix2 k l) = (m ((c : Thread nD τ).loc main_arg3) : S2048x64.Idx → EReal) (ix2 k l) := by
  rw [← U1_of m c main_arg3 (by decide)]
  blk_simp [bw2]
  refine congrArg _ ?_
  blk_ext [ix0_3]

theorem bb2_at (t : Fin cfg0.N) (l : Fin 64) :
    bb2 (U1 m) c t (ix2 0 l) = (m ((c : Thread nD τ).loc main_arg4) : S64.Idx → EReal) (ix1 l) := by
  rw [← U1_v1_at m c]
  blk_simp [bb2]
  refine congrArg _ ?_
  blk_ext [ix0_4]

/-- A row of a block computed from rows of the arguments. -/
theorem lgRow_of (x : Vec Ideal S512x4096 .f32) (w1 : Vec Ideal S4096x2048 .f32) (b1 : Vec Ideal S1x2048 .f32) (w2 : Vec Ideal S2048x64 .f32) (b2 : Vec Ideal S1x64 .f32)
    (X : FVec Ideal S8192x4096 .f32) (W1 : FVec Ideal S4096x2048 .f32) (B1 : FVec Ideal S2048 .f32) (W2 : FVec Ideal S2048x64 .f32) (B2 : FVec Ideal S64 .f32)
    (r : Fin 512) (R : Fin 8192) (hx : ∀ j : Fin 4096, x (ix2 r j) = X (ix2 R j)) (hw1 : ∀ (j : Fin 4096) (k : Fin 2048), w1 (ix2 j k) = W1 (ix2 j k))
    (hb1 : ∀ k : Fin 2048, b1 (ix2 0 k) = B1 (ix1 k)) (hw2 : ∀ (k : Fin 2048) (l : Fin 64), w2 (ix2 k l) = W2 (ix2 k l)) (hb2 : ∀ l : Fin 64, b2 (ix2 0 l) = B2 (ix1 l)) :
    lgRow (k0_pay2 x w1 b1 w2) b2 r = Ri.lrow X W1 B1 W2 B2 R := by
  funext l
  unfold lgRow Ri.lrow
  rw [lg_at, hb2]
  simp only [hx, hw1, hb1, hw2]

/-- A block's rows are the rows of the logits. -/
theorem lgs_row (t : Fin cfg0.N) (b : S1x64.Idx → EReal) (hb : ∀ l, b (ix2 0 l) = (m ((c : Thread nD τ).loc main_arg4) : S64.Idx → EReal) (ix1 l)) (r : Fin 512) :
    lgRow (lgs (U1 m) c t) b r = Lr m c (512 * t.val + r.val) := by
  have ht : t.val < 16 := Nat.lt_of_lt_of_eq t.isLt N_0
  have h : 512 * t.val + r.val < 8192 := by have := r.isLt; omega
  rw [Lr_of m c _ h]
  exact lgRow_of _ _ _ _ _ _ _ _ _ _ r ⟨_, h⟩ (fun j => bx_at m c t r j h) (fun j k => bw1_at m c t j k) (fun k => bb1_at m c t k) (fun k l => bw2_at m c t k l) hb

theorem coords_val : ∀ t : Fin grid0.N, (grid0.coords t 0).val = t.val := by decide +kernel

theorem blk_sum (n : ℕ) : (∑ x ∈ Finset.range (512 * n), Er m c x) + ∑ r : Fin 512, Er m c (512 * n + r.val) = ∑ x ∈ Finset.range (512 * (n + 1)), Er m c x := by
  rw [Nat.mul_succ, Finset.sum_range_add, Fin.sum_univ_eq_sum_range (fun r => Er m c (512 * n + r)) 512]

/-- After point `n` the running sum is the entropies of the first `n` blocks' rows. -/
theorem accN_at (n : ℕ) (hn : n < 16) (j : S1.Idx) : accN (U1 m) c n j = ∑ x ∈ Finset.range (512 * n), Er m c x := by
  induction n generalizing j with
  | zero =>
    show (Ideal.ofBits .f32 0x00000000#32 : EReal) + Ideal.ofBits .f32 0x00000000#32 = _
    rw [Ideal.ofBits_zero_f32, add_zero]; rfl
  | succ n ih =>
    have hN : n + 1 < cfg0.N := Nat.lt_of_lt_of_eq hn N_0.symm
    have hc : (grid0.coords ⟨n + 1, hN⟩ 0).val = n + 1 := coords_val ⟨n + 1, hN⟩
    rw [accN, dif_pos hN, acc0_pos _ (by rw [hc]; omega) (by rw [hc]; omega) _ _ _ _ (fun i => ih (by omega) i), ← blk_sum]
    simp only [lgs_row m c _ _ (bb2_at m c _)]
    rfl

end Cert.Proof.Ki
-- ==== Proof.KiFinal.lean ====
/- The kernel's three results, element by element, as functions of the rows of the logits. -/
module

public import proofs.«01_k».proof.Proof.KiBlocks

@[expose] public section

set_option maxRecDepth 16384

noncomputable section

namespace Cert.Proof.Ki

open Cert.KernelIdeal Cert.KernelIdeal.Gen
open Idealize.ShloMosaic Idealize.ShloMosaic.TcCoe
open Idealize.ShloMosaic.Pipeline (Dat Cfg Window arrRef)
open Cert.Proof.Sel Cert.Proof.Ent

variable (m : (ℓ : Loc nD τ sig) → Buf (Elt Ideal) ℓ) (c : Dev nD)

/-- The weight of a row's choice `k`. -/
def wv (L : Row) (k : Fin 8) : EReal := Ideal.div (ex L (pos (ex L) k.val)) (∑ j : Fin 8, ex L (pos (ex L) j.val))

/-- The lane of a row's choice `k`. -/
def iv (L : Row) (k : Fin 8) : BitVec 32 := BitVec.ofNat 32 (pos (ex L) k.val).val

theorem ix0_5 : ∀ t : Fin grid0.N, win0_5.index t = ![t.val - 1, 0] := by decide +kernel
theorem ix0_6 : ∀ t : Fin grid0.N, win0_6.index t = ![t.val - 1, 0] := by decide +kernel

/-- A block whose rows are those from `n` on. -/
theorem wts0_row (lg : Vec Ideal S512x64 .f32) (b : Vec Ideal S1x64 .f32) (n : ℕ) (h : ∀ r : Fin 512, lgRow lg b r = Lr m c (n + r.val)) (y : S512x8.Idx) :
    wts0 lg b y = wv (Lr m c (n + (y 0).val)) (y 1) := by
  idx_vars y
  rw [wts0_at, h]
  rfl
theorem idx0_row (lg : Vec Ideal S512x64 .f32) (b : Vec Ideal S1x64 .f32) (n : ℕ) (h : ∀ r : Fin 512, lgRow lg b r = Lr m c (n + r.val)) (y : S512x8.Idx) :
    idx0 lg b y = iv (Lr m c (n + (y 0).val)) (y 1) := by
  idx_vars y
  rw [idx0_at, h]
  rfl

/-- The first call's weights: fifteen blocks. -/
def G5 : S7680x8.Idx → EReal := fun i => wv (Lr m c (i 0).val) (i 1)
def G6 : S7680x8.Idx → BitVec 32 := fun i => iv (Lr m c (i 0).val) (i 1)

theorem arr5 : (dat0 (U1 m) c).arrAt 5 cfg0.N = G5 m c := by
  refine (dat0 (U1 m) c).arrAt_eq_of_covers 5 _ (by decide +kernel) fun t hf y => ?_
  have ht : t.val ≠ 0 := flush_pos t (Or.inl hf)
  have e0 : ((win0_5.blk t).view.emb y 0 : ℕ) = 512 * (t.val - 1) + (y 0).val := by blk_simp [ix0_5]; omega
  have e1 : ((win0_5.blk t).view.emb y 1 : ℕ) = (y 1).val := by blk_simp [ix0_5]
  exact (wts0_row m c (lgs (U1 m) c (prv t)) (bb2 (U1 m) c t) (512 * (t.val - 1)) (fun r => lgs_row m c _ _ (bb2_at m c _) r) y).trans
    (congrArg₂ (fun n k => wv (Lr m c n) k) e0.symm (Fin.ext e1.symm))

theorem arr6 : (dat0 (U1 m) c).arrAt 6 cfg0.N = G6 m c := by
  refine (dat0 (U1 m) c).arrAt_eq_of_covers 6 _ (by decide +kernel) fun t hf y => ?_
  have ht : t.val ≠ 0 := flush_pos t (Or.inr hf)
  have e0 : ((win0_6.blk t).view.emb y 0 : ℕ) = 512 * (t.val - 1) + (y 0).val := by blk_simp [ix0_6]; omega
  have e1 : ((win0_6.blk t).view.emb y 1 : ℕ) = (y 1).val := by blk_simp [ix0_6]
  exact (idx0_row m c (lgs (U1 m) c (prv t)) (bb2 (U1 m) c t) (512 * (t.val - 1)) (fun r => lgs_row m c _ _ (bb2_at m c _) r) y).trans
    (congrArg₂ (fun n k => iv (Lr m c n) k) e0.symm (Fin.ext e1.symm))

/-- The last point. -/
def tl : Fin cfg0.N := ⟨15, Nat.lt_of_lt_of_eq (by decide : 15 < 16) N_0.symm⟩

theorem arr7 : (dat0 (U1 m) c).arrAt 7 cfg0.N = accN (U1 m) c 15 := by
  refine (dat0 (U1 m) c).arrAt_eq_of_after_last 7 tl (by decide +kernel) _ fun j => ?_
  rfl

theorem arr8 : (dat0 (U1 m) c).arrAt 8 cfg0.N = lgs (U1 m) c tl := by
  refine (dat0 (U1 m) c).arrAt_eq_of_after_last 8 tl (by decide +kernel) _ fun j => ?_
  rfl

theorem U2_v20 : U2 m c main_v2_0 = G5 m c := (Pipeline.afterRegion_arr (dat0 (U1 m) c) (U1 m c) winFacts0.arr_inj 5).trans (arr5 m c)
theorem U2_v21 : U2 m c main_v2_1 = G6 m c := (Pipeline.afterRegion_arr (dat0 (U1 m) c) (U1 m c) winFacts0.arr_inj 6).trans (arr6 m c)
theorem U2_v22 : U2 m c main_v2_2 = accN (U1 m) c 15 := (Pipeline.afterRegion_arr (dat0 (U1 m) c) (U1 m c) winFacts0.arr_inj 7).trans (arr7 m c)
theorem U2_v23 : U2 m c main_v2_3 = lgs (U1 m) c tl := (Pipeline.afterRegion_arr (dat0 (U1 m) c) (U1 m c) winFacts0.arr_inj 8).trans (arr8 m c)
theorem U2_v1 : U2 m c main_v1 = U1 m c main_v1 :=
  (Pipeline.afterRegion_arr (dat0 (U1 m) c) (U1 m c) winFacts0.arr_inj 4).trans ((dat0 (U1 m) c).arrAt_in 4 rfl _)

/-- The second call's one point. -/
def t1 : Fin cfg1.N := ⟨0, Nat.lt_of_lt_of_eq (by decide : 0 < 1) N_1.symm⟩

theorem ix1_0 : ∀ t : Fin grid1.N, win1_0.index t = ![0, 0] := by decide +kernel
theorem ix1_1 : ∀ t : Fin grid1.N, win1_1.index t = ![0, 0] := by decide +kernel
theorem ix1_2 : ∀ t : Fin grid1.N, win1_2.index t = ![0] := by decide +kernel

theorem cl_eq : cl (U2 m) c t1 = lgs (U1 m) c tl := by
  rw [← U2_v23 m c]
  funext y
  blk_simp [cl]
  refine congrArg _ ?_
  blk_ext [ix1_0]
theorem cb2_eq : cb2 (U2 m) c t1 = U1 m c main_v1 := by
  rw [← U2_v1 m c]
  funext y
  blk_simp [cb2]
  refine congrArg _ ?_
  blk_ext [ix1_1]
theorem ce_eq : ce (U2 m) c t1 = accN (U1 m) c 15 := by
  rw [← U2_v22 m c]
  funext y
  blk_simp [ce]
  refine congrArg _ ?_
  blk_ext [ix1_2]

theorem last_row (r : Fin 512) : lgRow (cl (U2 m) c t1) (cb2 (U2 m) c t1) r = Lr m c (7680 + r.val) := by
  rw [cl_eq, cb2_eq, lgs_row m c _ _ (U1_v1_at m c)]
  rfl

def H3 : S512x8.Idx → EReal := fun i => wv (Lr m c (7680 + (i 0).val)) (i 1)
def H4 : S512x8.Idx → BitVec 32 := fun i => iv (Lr m c (7680 + (i 0).val)) (i 1)
def H5 : S1.Idx → EReal := fun _ => ∑ x ∈ Finset.range 8192, Er m c x

theorem last_wts (j : S512x8.Idx) : wts1 (cl (U2 m) c t1) (cb2 (U2 m) c t1) j = H3 m c j := by
  rw [wts1_eq]
  exact wts0_row m c _ _ 7680 (last_row m c) j
theorem last_idx (j : S512x8.Idx) : idx1 (cl (U2 m) c t1) (cb2 (U2 m) c t1) j = H4 m c j := by
  rw [idx1_eq]
  exact idx0_row m c _ _ 7680 (last_row m c) j
theorem last_acc (j : S1.Idx) : acc1 (cl (U2 m) c t1) (cb2 (U2 m) c t1) (ce (U2 m) c t1) j = H5 m c j := by
  show _ = ∑ x ∈ Finset.range (512 * (15 + 1)), Er m c x
  rw [ce_eq, acc1_at _ _ _ _ (accN_at m c 15 (by decide)), ← blk_sum m c 15]
  exact congrArg _ (Finset.sum_congr rfl fun r _ => congrArg entK (last_row m c r))

theorem brr3 : (dat1 (U2 m) c).arrAt 3 cfg1.N = H3 m c := by
  refine (dat1 (U2 m) c).arrAt_eq_of_after_last 3 t1 (by decide +kernel) _ fun j => ?_
  exact last_wts m c j
theorem brr4 : (dat1 (U2 m) c).arrAt 4 cfg1.N = H4 m c := by
  refine (dat1 (U2 m) c).arrAt_eq_of_after_last 4 t1 (by decide +kernel) _ fun j => ?_
  exact last_idx m c j
theorem brr5 : (dat1 (U2 m) c).arrAt 5 cfg1.N = H5 m c := by
  refine (dat1 (U2 m) c).arrAt_eq_of_after_last 5 t1 (by decide +kernel) _ fun j => ?_
  exact last_acc m c j

theorem U3_v30 : U3 m c main_v3_0 = H3 m c := (Pipeline.afterRegion_arr (dat1 (U2 m) c) (U2 m c) winFacts1.arr_inj 3).trans (brr3 m c)
theorem U3_v31 : U3 m c main_v3_1 = H4 m c := (Pipeline.afterRegion_arr (dat1 (U2 m) c) (U2 m c) winFacts1.arr_inj 4).trans (brr4 m c)
theorem U3_v32 : U3 m c main_v3_2 = H5 m c := (Pipeline.afterRegion_arr (dat1 (U2 m) c) (U2 m c) winFacts1.arr_inj 5).trans (brr5 m c)
theorem U3_v20 : U3 m c main_v2_0 = G5 m c := (Pipeline.afterRegion_of_not_arr (dat1 (U2 m) c) (U2 m c) (b := main_v2_0) (by decide)).trans (U2_v20 m c)
theorem U3_v21 : U3 m c main_v2_1 = G6 m c := (Pipeline.afterRegion_of_not_arr (dat1 (U2 m) c) (U2 m c) (b := main_v2_1) (by decide)).trans (U2_v21 m c)

theorem U4_v4 : U4 m c main_v4 = (concatenate S8192x8 0 [⟨S7680x8, G5 m c⟩, ⟨S512x8, H3 m c⟩] concatenates_S7680x8_S512x8_S8192x8_d0 : S8192x8.Idx → EReal) := by
  rw [← U3_v20 m c, ← U3_v30 m c]
  unfold U4
  generalize U3 m c = v
  after_results_simp
  try rfl
theorem U4_v5 : U4 m c main_v5 = (concatenate S8192x8 0 [⟨S7680x8, G6 m c⟩, ⟨S512x8, H4 m c⟩] concatenates_S7680x8_S512x8_S8192x8_d0 : S8192x8.Idx → BitVec 32) := by
  rw [← U3_v21 m c, ← U3_v31 m c]
  unfold U4
  generalize U3 m c = v
  after_results_simp
  try rfl
theorem U4_v9 : U4 m c main_v9 = Host.divf (Host.divf (shapeCast S_ (H5 m c) shapeCasts_S1_S_) (constant S_ .f32 0x46000000#32)) (Host.log (constant (F := Ideal) S_ .f32 0x42800000#32)) := by
  rw [← U3_v32 m c]
  unfold U4
  generalize U3 m c = v
  after_results_simp
  try rfl

/-- The weights at a row and choice. -/
theorem v4_at (R : Fin 8192) (k : Fin 8) : (U4 m c main_v4 : S8192x8.Idx → EReal) (ix2 R k) = wv (Lr m c R.val) k := by
  rw [U4_v4]
  pointwise [G5, H3]
  split
  · rfl
  · rename_i h
    exact congrArg (fun n => wv (Lr m c n) k) (by omega)
theorem v5_at (R : Fin 8192) (k : Fin 8) : (U4 m c main_v5 : S8192x8.Idx → BitVec 32) (ix2 R k) = iv (Lr m c R.val) k := by
  rw [U4_v5]
  pointwise [G6, H4]
  split
  · rfl
  · rename_i h
    exact congrArg (fun n => iv (Lr m c n) k) (by omega)
/-- The uncertainty. -/
theorem v9_at : (U4 m c main_v9 : S_.Idx → EReal) ix0
    = Ideal.div (Ideal.div (∑ x ∈ Finset.range 8192, Er m c x) (Ideal.ofBits .f32 0x46000000#32)) (Ideal.log (Ideal.ofBits .f32 0x42800000#32)) := by
  rw [U4_v9]
  pointwise [H5]
  try rfl

end Cert.Proof.Ki
-- ==== Proof.Reals.lean ====
/- From the precondition: every element of the arguments, and so every logit, is a real number. -/
module

public import proofs.«01_k».proof.Proof.RefRow
public import proofs.«01_k».proof.Proof.Gen.Pre_finite_inputs
public import Idealize.ShloMosaic.Lib.ReduceAll

@[expose] public section

set_option maxRecDepth 16384

noncomputable section

namespace Cert.Proof.Ri

open Cert.Pre_finite_inputs Cert.Pre_finite_inputs.Gen
open Idealize.ShloMosaic
open Cert.Proof.Sel Cert.Proof.Ent

theorem and_one (x y : IVec S_ 1) (h : andi x y ix0 = 1#1) : x ix0 = 1#1 ∧ y ix0 = 1#1 := by
  have hb : ∀ a b : BitVec 1, a &&& b = 1#1 → a = 1#1 ∧ b = 1#1 := by decide
  exact hb _ _ h

theorem ofBits_inf : Ideal.ofBits .f32 0x7F800000#32 = ⊤ := by simp [Ideal.ofBits, Ideal.ieee]

/-- An element whose absolute value is below infinity is real. -/
theorem real_of {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  have h' : BitVec.ofBool (decide (max (x i : EReal) (-(x i : EReal)) < Ideal.ofBits .f32 0x7F800000#32)) = 1#1 := h
  rw [ofBits_inf] at h'
  refine isReal_of_abs_lt ?_
  by_contra hc
  rw [decide_eq_false hc] at h'
  exact absurd h' (by decide)

theorem reals (X : FVec Ideal S8192x4096 .f32) (W1 : FVec Ideal S4096x2048 .f32) (B1 : FVec Ideal S2048 .f32) (W2 : FVec Ideal S2048x64 .f32) (B2 : FVec Ideal S64 .f32)
    (h : Cert.Pre_finite_inputs.fn X W1 B1 W2 B2 ix0 = 1#1) :
    (∀ i, IsReal (X i)) ∧ (∀ i, IsReal (W1 i)) ∧ (∀ i, IsReal (B1 i)) ∧ (∀ i, IsReal (W2 i)) ∧ (∀ i, IsReal (B2 i)) := by
  haveI : Subsingleton S_.Idx := ⟨fun a b => funext fun i => i.elim0⟩
  unfold Cert.Pre_finite_inputs.fn Cert.Pre_finite_inputs.fn_part1 at h
  obtain ⟨h, h4⟩ := and_one _ _ h
  obtain ⟨h, h3⟩ := and_one _ _ h
  obtain ⟨h, h2⟩ := and_one _ _ h
  obtain ⟨h0, h1⟩ := and_one _ _ h
  exact ⟨fun i => real_of X _ i (Host.reduce_andi_all _ _ _ _ _ h0 i), fun i => real_of W1 _ i (Host.reduce_andi_all _ _ _ _ _ h1 i),
    fun i => real_of B1 _ i (Host.reduce_andi_all _ _ _ _ _ h2 i), fun i => real_of W2 _ i (Host.reduce_andi_all _ _ _ _ _ h3 i),
    fun i => real_of B2 _ i (Host.reduce_andi_all _ _ _ _ _ h4 i)⟩

theorem lrow_real (X : FVec Ideal S8192x4096 .f32) (W1 : FVec Ideal S4096x2048 .f32) (B1 : FVec Ideal S2048 .f32) (W2 : FVec Ideal S2048x64 .f32) (B2 : FVec Ideal S64 .f32)
    (h : Cert.Pre_finite_inputs.fn X W1 B1 W2 B2 ix0 = 1#1) (R : Fin 8192) (l : Fin 64) : IsReal (lrow X W1 B1 W2 B2 R l) := by
  obtain ⟨hX, hW1, hB1, hW2, hB2⟩ := reals X W1 B1 W2 B2 h
  exact (isReal_sum _ _ fun k _ => (((isReal_sum _ _ fun j _ => (hX _).mul (hW1 _)).add (hB1 _)).max isReal_zero).mul (hW2 _)).add (hB2 _)

end Cert.Proof.Ri
-- ==== Proof.Same.lean ====
/- The three results: what the reference computes from the arguments is what the kernel ends with, the arguments being finite. -/
module

public import proofs.«01_k».proof.Proof.KiFinal
public import proofs.«01_k».proof.Proof.Reals

@[expose] public section

set_option maxRecDepth 16384

noncomputable section

namespace Cert.Proof.Same

open Idealize.ShloMosaic Idealize.ShloMosaic.TcCoe Idealize.SL.Sem
open Cert.Proof.Sel Cert.Proof.Ent

section
open Cert.ReferenceIdeal Cert.ReferenceIdeal.Gen Cert.ReferenceIdeal.Value
variable (m : (ℓ : Loc nD τ sig) → Buf (Elt Ideal) ℓ) (ρ : Dev nD → PrngReg) (c : Dev nD)

/-- The reference's logits of its arguments. -/
def refLogits : FVec Ideal S8192x64 .f32 :=
  Ri.logits (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem res24 : res_main_v24 m c = Ri.share (Ri.best (Ri.probs (refLogits m c))).1 := by
  unfold res_main_v24
  rfl
theorem res32 : res_main_v32 m c = Ri.unc (Ri.probs (refLogits m c)) := by
  unfold res_main_v32
  rfl

/-- The reference's run, its results by name. -/
theorem ref_run : θ_run defs (onTc (τ := τ) (main (F := Ideal))) ⟨m, fun _ => 0, ρ⟩ fun r => ∀ c : Dev nD,
      r.2.mem ((c.tc : Thread nD τ).loc main_v24) = Ri.share (Ri.best (Ri.probs (refLogits m c))).1
      ∧ r.2.mem ((c.tc : Thread nD τ).loc main_indices) = (Ri.best (Ri.probs (refLogits m c))).2
      ∧ r.2.mem ((c.tc : Thread nD τ).loc main_v32) = Ri.unc (Ri.probs (refLogits m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res24 m c), (h c).2.1, (h c).2.2.1.trans (res32 m c), (h c).2.2.2⟩) (run m ρ)
end

section
open Cert.KernelIdeal Cert.KernelIdeal.Gen Cert.Proof.Ki
variable (m : (ℓ : Loc nD τ sig) → Buf (Elt Ideal) ℓ) (c : Dev nD)

/-- The logits of the kernel's arguments, as the reference would compute them. -/
def kerLogits : FVec Ideal Cert.ReferenceIdeal.S8192x64 .f32 :=
  Ri.logits (m ((c : Thread nD τ).loc main_arg0)) (m ((c : Thread nD τ).loc main_arg1)) (m ((c : Thread nD τ).loc main_arg2))
    (m ((c : Thread nD τ).loc main_arg3)) (m ((c : Thread nD τ).loc main_arg4))

theorem row_logits (R : Fin 8192) : Ri.row (kerLogits m c) R = Lr m c R.val := by
  rw [Lr_of m c R.val R.isLt]
  exact funext fun l => Ri.logits_at _ _ _ _ _ R l

variable (hp : Cert.Pre_finite_inputs.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) ix0 = 1#1)
include hp

theorem row_real (R : Fin 8192) (l : Fin 64) : IsReal (Ri.row (kerLogits m c) R l) := by
  rw [row_logits, Lr_of m c R.val R.isLt]
  exact Ri.lrow_real _ _ _ _ _ hp R l

theorem wts_same : Ri.share (Ri.best (Ri.probs (kerLogits m c))).1 = U4 m c main_v4 := by
  funext i
  idx_vars i
  refine (Ri.share_at _ _ (row_real m c hp _) _).trans ((v4_at m c _ _).trans ?_).symm
  rw [row_logits]
  rfl

theorem idx_same : (Ri.best (Ri.probs (kerLogits m c))).2 = U4 m c main_v5 := by
  funext i
  idx_vars i
  refine (Ri.best_idx _ _ (row_real m c hp _) _).trans ((v5_at m c _ _).trans ?_).symm
  rw [row_logits]
  rfl

theorem unc_same : Ri.unc (Ri.probs (kerLogits m c)) = U4 m c main_v9 := by
  funext i
  rw [show i = ix0 from funext fun a => a.elim0]
  refine (Ri.unc_at _).trans ((v9_at m c).trans ?_).symm
  have hs : (∑ x ∈ Finset.range 8192, Er m c x) = ∑ R : Fin 8192, entR (Ri.row (kerLogits m c) R) := by
    rw [← Fin.sum_univ_eq_sum_range]
    refine Finset.sum_congr rfl fun R _ => ?_
    rw [← ent_eq (row_real m c hp R), row_logits]
    rfl
  rw [hs]

end

end Cert.Proof.Same
-- ==== Proof.lean ====
/- The proof of the certificate's claim: the three frames, `preserves`, and the equality of the kernel's three results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_inputs
public import proofs.«01_k».proof.Proof.KLaunch
public import proofs.«01_k».proof.Proof.KiLaunch
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel's frame at the float instance. -/
theorem frame_p : Cert.quiescent_Kernel := fun m ρ _ => Cert.Proof.K.frame_main m ρ

/-- The kernel's frame over the extended reals. -/
theorem frame_pi : Cert.quiescent_KernelIdeal := fun m ρ _ => Cert.Proof.Ki.frame_main m ρ

/-- The reference's frame: its run writes no argument, and it declares no semaphore. -/
theorem frame_ri : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- From finite arguments the kernel's three results are the reference's. -/
theorem algebraic : Cert.algebraic_KernelIdeal_ReferenceIdeal_pre_finite_inputs := by
  intro m g m' g' hpre hargs
  have hp := fun c => congrFun (hpre c) ix0
  have hl : ∀ c, Same.refLogits m' c = Same.kerLogits m c := fun c => by
    obtain ⟨h0, h1, h2, h3, h4⟩ := hargs c
    unfold Same.refLogits Same.kerLogits
    rw [h0, h1, h2, h3, h4]
  refine ⟨fun c => Ki.U4 m c (Proc.devRef .tc Cert.KernelIdeal.main_v4), fun c => Ki.U4 m c (Proc.devRef .tc Cert.KernelIdeal.main_v5), fun c => Ki.U4 m c (Proc.devRef .tc Cert.KernelIdeal.main_v9), ?_, ?_⟩
  · exact θ_run_mono (Ki.run_main m g) (fun r hr c =>
      ⟨hr.1 c _ (Ki.mem_uc Cert.KernelIdeal.main_v4 (by decide)), hr.1 c _ (Ki.mem_uc Cert.KernelIdeal.main_v5 (by decide)),
        hr.1 c _ (Ki.mem_uc Cert.KernelIdeal.main_v9 (by decide)),
        (hr.1 c _ (Ki.mem_uc Cert.KernelIdeal.main_arg0 (by decide))).trans (Ki.U4_main_arg0 m c), (hr.1 c _ (Ki.mem_uc Cert.KernelIdeal.main_arg1 (by decide))).trans (Ki.U4_main_arg1 m c),
        (hr.1 c _ (Ki.mem_uc Cert.KernelIdeal.main_arg2 (by decide))).trans (Ki.U4_main_arg2 m c), (hr.1 c _ (Ki.mem_uc Cert.KernelIdeal.main_arg3 (by decide))).trans (Ki.U4_main_arg3 m c),
        (hr.1 c _ (Ki.mem_uc Cert.KernelIdeal.main_arg4 (by decide))).trans (Ki.U4_main_arg4 m c)⟩)
  · exact θ_run_mono (Same.ref_run m' g') (fun r hr c =>
      ⟨((hr c).1.trans (by rw [hl c])).trans (Same.wts_same m c (hp c)), ((hr c).2.1.trans (by rw [hl c])).trans (Same.idx_same m c (hp c)),
        ((hr c).2.2.1.trans (by rw [hl c])).trans (Same.unc_same m c (hp c)), (hr c).2.2.2⟩)

theorem claim : Cert.Claim := ⟨Cert.Kernel.Gen.facts, Cert.KernelIdeal.Gen.facts, Cert.ReferenceIdeal.Gen.facts, Cert.Pre_finite_inputs.Gen.facts,
  frame_p, frame_pi, fun m ρ _ => frame_pi m ρ trivial, frame_ri, fun m ρ _ => frame_ri m ρ trivial, trivial, algebraic⟩

end Cert.Proof

end
